-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands_KernelIdeal [hPre_finite_operands_KernelIdeal : Cert.Pre_finite_operands_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands_ReferenceIdeal [hPre_finite_operands_ReferenceIdeal : Cert.Pre_finite_operands_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_operands_KernelIdeal [hKernelIdeal : Cert.KernelIdeal.Facts] [hPre_finite_operands_KernelIdeal : Cert.Pre_finite_operands_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_operands_ReferenceIdeal [hReferenceIdeal : Cert.ReferenceIdeal.Facts] [hPre_finite_operands_ReferenceIdeal : Cert.Pre_finite_operands_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "qscale" .bf16 0x3E39#16 (((1 / 8) * (Real.log 2)⁻¹ : ℝ) : EReal)
  ∧ IdealRules.named_const.Statement Cert.KernelIdeal.κ "masked" .f32 0xCE6E6B28#32 ⊥

def algebraic_KernelIdeal_ReferenceIdeal_pre_finite_operands_KernelIdeal [hKernelIdeal : Cert.KernelIdeal.Facts] [hReferenceIdeal : Cert.ReferenceIdeal.Facts] [hPre_finite_operands_KernelIdeal : Cert.Pre_finite_operands_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 32, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 32, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_operands_KernelIdeal : Cert.Pre_finite_operands_KernelIdeal.Facts) (hPre_finite_operands_ReferenceIdeal : Cert.Pre_finite_operands_ReferenceIdeal.Facts),
    quiescent_Kernel (hKernel := hKernel)
    ∧ quiescent_KernelIdeal (hKernelIdeal := hKernelIdeal)
    ∧ quiescent_KernelIdeal_pre_finite_operands_KernelIdeal (hKernelIdeal := hKernelIdeal) (hPre_finite_operands_KernelIdeal := hPre_finite_operands_KernelIdeal)
    ∧ quiescent_ReferenceIdeal (hReferenceIdeal := hReferenceIdeal)
    ∧ quiescent_ReferenceIdeal_pre_finite_operands_ReferenceIdeal (hReferenceIdeal := hReferenceIdeal) (hPre_finite_operands_ReferenceIdeal := hPre_finite_operands_ReferenceIdeal)
    ∧ preserves_Kernel_KernelIdeal
    ∧ algebraic_KernelIdeal_ReferenceIdeal_pre_finite_operands_KernelIdeal (hKernelIdeal := hKernelIdeal) (hReferenceIdeal := hReferenceIdeal) (hPre_finite_operands_KernelIdeal := hPre_finite_operands_KernelIdeal)
-- ==== Pre_finite_operands_KernelIdeal.lean ====
abbrev S2x512x768 : Shape := ⟨3, ![2, 512, 768]⟩
abbrev S768x2048 : Shape := ⟨2, ![768, 2048]⟩
abbrev S2x512x8x64 : Shape := ⟨4, ![2, 512, 8, 64]⟩
abbrev S2048x768 : Shape := ⟨2, ![2048, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .bf16) (main_arg1 : FVec F S768x2048 .bf16) (main_arg2 : FVec F S2x512x8x64 .bf16) (main_arg3 : FVec F S2x512x8x64 .bf16) (main_arg4 : FVec F S2048x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x2048 .f32 := (extf .f32 · bitsLt_bf16_f32) main_arg1
  let main_v6 : FVec F S768x2048 .f32 := Host.absf main_v5
  let main_cst_0 : FVec F S_ .f32 := constant S_ .f32 0x7F800000#32
  let main_v7 : FVec F S768x2048 .f32 := broadcastInDim S768x2048 ![] bcast_S_S768x2048 main_cst_0
  let main_v8 : IVec S768x2048 1 := cmpf .olt main_v6 main_v7
  let main_c_1 : IVec S_ 1 := constantI S_ 1 1#1
  let main_v9 : IVec S_ 1 := (fun x v => Host.reduce IntOp.andi x v reducesTo_S768x2048_S_d0_1 h_S_) main_v8 main_c_1
  let main_v10 : IVec S_ 1 := andi main_v4 main_v9
  let main_v11 : FVec F S2x512x8x64 .f32 := (extf .f32 · bitsLt_bf16_f32) main_arg2
  let main_v12 : FVec F S2x512x8x64 .f32 := Host.absf main_v11
  let main_cst_2 : FVec F S_ .f32 := constant S_ .f32 0x7F800000#32
  let main_v13 : FVec F S2x512x8x64 .f32 := broadcastInDim S2x512x8x64 ![] bcast_S_S2x512x8x64 main_cst_2
  let main_v14 : IVec S2x512x8x64 1 := cmpf .olt main_v12 main_v13
  let main_c_3 : IVec S_ 1 := constantI S_ 1 1#1
  let main_v15 : IVec S_ 1 := (fun x v => Host.reduce IntOp.andi x v reducesTo_S2x512x8x64_S_d0_1_2_3 h_S_) main_v14 main_c_3
  let main_v16 : IVec S_ 1 := andi main_v10 main_v15
  main_v16
-- ==== Pre_finite_operands_ReferenceIdeal.lean ====
abbrev S2x512x768 : Shape := ⟨3, ![2, 512, 768]⟩
abbrev S768x2048 : Shape := ⟨2, ![768, 2048]⟩
abbrev S2x512x32x64 : Shape := ⟨4, ![2, 512, 32, 64]⟩
abbrev S2048x768 : Shape := ⟨2, ![2048, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2x512x32x64 : S_.BroadcastsInDim S2x512x32x64 (![] : Fin 0 → Fin S2x512x32x64.rank)
  reducesTo_S2x512x32x64_S_d0_1_2_3 : S2x512x32x64.ReducesTo [0, 1, 2, 3] S_

variable [Facts]

def fn {F : FTy → Type} [FloatOps F] (main_arg0 : FVec F S2x512x768 .bf16) (main_arg1 : FVec F S768x2048 .bf16) (main_arg2 : FVec F S2x512x32x64 .bf16) (main_arg3 : FVec F S2x512x32x64 .bf16) (main_arg4 : FVec F S2048x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x2048 .f32 := (extf .f32 · bitsLt_bf16_f32) main_arg1
  let main_v6 : FVec F S768x2048 .f32 := Host.absf main_v5
  let main_cst_0 : FVec F S_ .f32 := constant S_ .f32 0x7F800000#32
  let main_v7 : FVec F S768x2048 .f32 := broadcastInDim S768x2048 ![] bcast_S_S768x2048 main_cst_0
  let main_v8 : IVec S768x2048 1 := cmpf .olt main_v6 main_v7
  let main_c_1 : IVec S_ 1 := constantI S_ 1 1#1
  let main_v9 : IVec S_ 1 := (fun x v => Host.reduce IntOp.andi x v reducesTo_S768x2048_S_d0_1 h_S_) main_v8 main_c_1
  let main_v10 : IVec S_ 1 := andi main_v4 main_v9
  let main_v11 : FVec F S2x512x32x64 .f32 := (extf .f32 · bitsLt_bf16_f32) main_arg2
  let main_v12 : FVec F S2x512x32x64 .f32 := Host.absf main_v11
  let main_cst_2 : FVec F S_ .f32 := constant S_ .f32 0x7F800000#32
  let main_v13 : FVec F S2x512x32x64 .f32 := broadcastInDim S2x512x32x64 ![] bcast_S_S2x512x32x64 main_cst_2
  let main_v14 : IVec S2x512x32x64 1 := cmpf .olt main_v12 main_v13
  let main_c_3 : IVec S_ 1 := constantI S_ 1 1#1
  let main_v15 : IVec S_ 1 := (fun x v => Host.reduce IntOp.andi x v reducesTo_S2x512x32x64_S_d0_1_2_3 h_S_) main_v14 main_c_3
  let main_v16 : IVec S_ 1 := andi main_v10 main_v15
  main_v16
-- ==== Kernel.lean ====
abbrev S2x512x768 : Shape := ⟨3, ![2, 512, 768]⟩
abbrev S768x2048 : Shape := ⟨2, ![768, 2048]⟩
abbrev S2x512x8x64 : Shape := ⟨4, ![2, 512, 8, 64]⟩
abbrev S2048x768 : Shape := ⟨2, ![2048, 768]⟩
abbrev S4x2x512x512 : Shape := ⟨4, ![4, 2, 512, 512]⟩
abbrev S12 : Shape := ⟨1, ![12]⟩
abbrev S_ : Shape := ⟨0, ![]⟩
abbrev S256x256 : Shape := ⟨2, ![256, 256]⟩
abbrev S256x512 : Shape := ⟨2, ![256, 512]⟩
abbrev S768x512 : Shape := ⟨2, ![768, 512]⟩
abbrev S1x512x768 : Shape := ⟨3, ![1, 512, 768]⟩
abbrev S512x768 : Shape := ⟨2, ![512, 768]⟩
abbrev S512x512 : Shape := ⟨2, ![512, 512]⟩
abbrev S512x64 : Shape := ⟨2, ![512, 64]⟩
abbrev S1x512x1x64 : Shape := ⟨4, ![1, 512, 1, 64]⟩
abbrev S256x64 : Shape := ⟨2, ![256, 64]⟩
abbrev S256 : Shape := ⟨1, ![256]⟩
abbrev S256x1 : Shape := ⟨2, ![256, 1]⟩
abbrev S1x1x256x64 : Shape := ⟨4, ![1, 1, 256, 64]⟩
abbrev S1 : Shape := ⟨1, ![1]⟩
abbrev S1x2x512x128 : Shape := ⟨4, ![1, 2, 512, 128]⟩
abbrev S2x512x128 : Shape := ⟨3, ![2, 512, 128]⟩
abbrev S1x1x512x512 : Shape := ⟨4, ![1, 1, 512, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x512x768, .bf16⟩
  | .hbm, ⟨1, _⟩ => ⟨S768x2048, .bf16⟩
  | .hbm, ⟨2, _⟩ => ⟨S2x512x8x64, .bf16⟩
  | .hbm, ⟨3, _⟩ => ⟨S2x512x8x64, .bf16⟩
  | .hbm, ⟨4, _⟩ => ⟨S2048x768, .bf16⟩
  | .hbm, ⟨5, _⟩ => ⟨S2x512x768, .f32⟩
  | .local _ .vmem, ⟨0, _⟩ => ⟨S2x512x768, .bf16⟩
  | .local _ .vmem, ⟨1, _⟩ => ⟨S768x2048, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S2048x768, .bf16⟩
  | .local _ .vmem, ⟨5, _⟩ => ⟨S2x512x768, .f32⟩
  | .local _ .vmem, ⟨6, _⟩ => ⟨S4x2x512x512, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_off1 (d0 : Dev nD) : Fin 2 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v119 : BitVec 32 := Scalar.muli v2 c512_i32
  let v120 : Index := Scalar.indexCast v119
  ![0, v120.toNat]
def k0_dev3 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_152 : BitVec 32 := 1#32
  let v299 : BitVec 32 := Scalar.muli v7 c1_i32_152
  let v300 : BitVec 32 := Scalar.addi c0_i32_153 v299
  v300.toNat
def k0_dev4 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_164 : BitVec 32 := 1#32
  let v309 : BitVec 32 := Scalar.muli v5 c1_i32_164
  let v310 : BitVec 32 := Scalar.addi c0_i32_165 v309
  v310.toNat
def k0_dev5 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_276 : BitVec 32 := 1#32
  let v487 : BitVec 32 := Scalar.muli v7 c1_i32_276
  let v488 : BitVec 32 := Scalar.addi c0_i32_277 v487
  v488.toNat
def k0_dev6 (d0 : Dev nD) : Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_286 : BitVec 32 := 1#32
  let v497 : BitVec 32 := Scalar.muli v5 c1_i32_286
  let v498 : BitVec 32 := Scalar.addi c0_i32_287 v497
  v498.toNat
def k0_dev7 (d0 : Dev nD) : Nat :=
  let c0_i32_400 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_399 : BitVec 32 := 1#32
  let v675 : BitVec 32 := Scalar.muli v7 c1_i32_399
  let v676 : BitVec 32 := Scalar.addi c0_i32_400 v675
  v676.toNat
def k0_dev8 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_410 : BitVec 32 := 1#32
  let v685 : BitVec 32 := Scalar.muli v5 c1_i32_410
  let v686 : BitVec 32 := Scalar.addi c0_i32_411 v685
  v686.toNat
def k0_dev9 (d0 : Dev nD) : Nat :=
  let c0_i32_433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_432 : BitVec 32 := 1#32
  let v703 : BitVec 32 := Scalar.muli v7 c1_i32_432
  let v704 : BitVec 32 := Scalar.addi c0_i32_433 v703
  v704.toNat
def k0_dev10 (d0 : Dev nD) : Nat :=
  let c0_i32_456 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_455 : BitVec 32 := 1#32
  let v721 : BitVec 32 := Scalar.muli v5 c1_i32_455
  let v722 : BitVec 32 := Scalar.addi c0_i32_456 v721
  v722.toNat
def k0_dev11 (d0 : Dev nD) : Nat :=
  let c0_i32_568 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_567 : BitVec 32 := 1#32
  let v899 : BitVec 32 := Scalar.muli v7 c1_i32_567
  let v900 : BitVec 32 := Scalar.addi c0_i32_568 v899
  v900.toNat
def k0_dev12 (d0 : Dev nD) : Nat :=
  let c0_i32_578 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_577 : BitVec 32 := 1#32
  let v909 : BitVec 32 := Scalar.muli v5 c1_i32_577
  let v910 : BitVec 32 := Scalar.addi c0_i32_578 v909
  v910.toNat
def k0_dev13 (d0 : Dev nD) : Nat :=
  let c0_i32_601 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_600 : BitVec 32 := 1#32
  let v927 : BitVec 32 := Scalar.muli v7 c1_i32_600
  let v928 : BitVec 32 := Scalar.addi c0_i32_601 v927
  v928.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_608 : BitVec 32 := 512#32
  let v937 : BitVec 32 := Scalar.muli v2 c512_i32_608
  let v938 : Index := Scalar.indexCast v937
  let c0_609 : Index := 0#32
  ![v938.toNat, 0]
def k0_dev14 (d0 : Dev nD) : Nat :=
  let c0_i32_642 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_641 : BitVec 32 := 1#32
  let v961 : BitVec 32 := Scalar.muli v5 c1_i32_641
  let v962 : BitVec 32 := Scalar.addi c0_i32_642 v961
  v962.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c512_i32_697 : BitVec 32 := 512#32
  let v1003 : BitVec 32 := Scalar.muli v5 c512_i32_697
  let v1004 : Index := Scalar.indexCast v1003
  let c0_698 : Index := 0#32
  ![v1004.toNat, 0]
def k0_off4 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c512_i32_699 : BitVec 32 := 512#32
  let v1007 : BitVec 32 := Scalar.muli v7 c512_i32_699
  let v1008 : Index := Scalar.indexCast v1007
  let c0_700 : Index := 0#32
  ![v1008.toNat, 0]
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "masked" => some ⊥
  | "qscale" => some (((1 / 8) * (Real.log 2)⁻¹ : ℝ) : EReal)
  | _ => none
-- ==== ReferenceIdeal.lean ====
abbrev S2x512x768 : Shape := ⟨3, ![2, 512, 768]⟩
abbrev S768x2048 : Shape := ⟨2, ![768, 2048]⟩
abbrev S2x512x32x64 : Shape := ⟨4, ![2, 512, 32, 64]⟩
abbrev S2048x768 : Shape := ⟨2, ![2048, 768]⟩
abbrev S2x512x2048 : Shape := ⟨3, ![2, 512, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x32x512x512 : Shape := ⟨4, ![2, 32, 512, 512]⟩
abbrev S1x1x512x512 : Shape := ⟨4, ![1, 1, 512, 512]⟩
abbrev S2x32x512 : Shape := ⟨3, ![2, 32, 512]⟩
abbrev S2x32x512x1 : Shape := ⟨4, ![2, 32, 512, 1]⟩
abbrev S1x1x512x1 : Shape := ⟨4, ![1, 1, 512, 1]⟩
abbrev S2x32x64x512 : Shape := ⟨4, ![2, 32, 64, 512]⟩

abbrev nBuf : Space → Nat
  | .hbm => 94
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x2048, .bf16⟩
  | .hbm, ⟨2, _⟩ => ⟨S2x512x32x64, .bf16⟩
  | .hbm, ⟨3, _⟩ => ⟨S2x512x32x64, .bf16⟩
  | .hbm, ⟨4, _⟩ => ⟨S2048x768, .bf16⟩
  | .hbm, ⟨5, _⟩ => ⟨S2x512x768, .f32⟩
  | .hbm, ⟨6, _⟩ => ⟨S768x2048, .f32⟩
  | .hbm, ⟨7, _⟩ => ⟨S2x512x32x64, .f32⟩
  | .hbm, ⟨8, _⟩ => ⟨S2x512x32x64, .f32⟩
  | .hbm, ⟨9, _⟩ => ⟨S2048x768, .f32⟩
  | .hbm, ⟨10, _⟩ => ⟨S2x512x2048, .f32⟩
  | .hbm, ⟨11, _⟩ => ⟨S2x512x32x64, .f32⟩
  | .hbm, ⟨12, _⟩ => ⟨S512, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512, .i32⟩
  | .hbm, ⟨33, _⟩ => ⟨S_, .i32⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i32⟩
  | .hbm, ⟨42, _⟩ => ⟨S512, .i32⟩
  | .hbm, ⟨43, _⟩ => ⟨S_, .i32⟩
  | .hbm, ⟨44, _⟩ => ⟨S512, .i32⟩
  | .hbm, ⟨45, _⟩ => ⟨S512, .i1⟩
  | .hbm, ⟨46, _⟩ => ⟨S512, .i1⟩
  | .hbm, ⟨47, _⟩ => ⟨S_, .i32⟩
  | .hbm, ⟨48, _⟩ => ⟨S512, .i32⟩
  | .hbm, ⟨49, _⟩ => ⟨S512, .i32⟩
  | .hbm, ⟨50, _⟩ => ⟨S512, .i32⟩
  | .hbm, ⟨51, _⟩ => ⟨S1x512, .i32⟩
  | .hbm, ⟨52, _⟩ => ⟨S512x512, .i32⟩
  | .hbm, ⟨53, _⟩ => ⟨S512x512, .i32⟩
  | .hbm, ⟨54, _⟩ => ⟨S512x512, .i1⟩
  | .hbm, ⟨55, _⟩ => ⟨S2x32x512x512, .f32⟩
  | .hbm, ⟨56, _⟩ => ⟨S_, .f32⟩
  | .hbm, ⟨57, _⟩ => ⟨S2x32x512x512, .f32⟩
  | .hbm, ⟨58, _⟩ => ⟨S2x32x512x512, .f32⟩
  | .hbm, ⟨59, _⟩ => ⟨S1x1x512x512, .i1⟩
  | .hbm, ⟨60, _⟩ => ⟨S_, .f32⟩
  | .hbm, ⟨61, _⟩ => ⟨S_, .f32⟩
  | .hbm, ⟨62, _⟩ => ⟨S2x32x512x512, .i1⟩
  | .hbm, ⟨63, _⟩ => ⟨S2x32x512x512, .f32⟩
  | .hbm, ⟨64, _⟩ => ⟨S2x32x512x512, .f32⟩
  | .hbm, ⟨65, _⟩ => ⟨S_, .f32⟩
  | .hbm, ⟨66, _⟩ => ⟨S2x32x512, .f32⟩
  | .hbm, ⟨67, _⟩ => ⟨S2x32x512x1, .f32⟩
  | .hbm, ⟨68, _⟩ => ⟨S2x32x512x512, .f32⟩
  | .hbm, ⟨69, _⟩ => ⟨S2x32x512x512, .f32⟩
  | .hbm, ⟨70, _⟩ => ⟨S2x32x512x512, .f32⟩
  | .hbm, ⟨71, _⟩ => ⟨S_, .i1⟩
  | .hbm, ⟨72, _⟩ => ⟨S512, .i1⟩
  | .hbm, ⟨73, _⟩ => ⟨S1x1x512x1, .i1⟩
  | .hbm, ⟨74, _⟩ => ⟨S_, .f32⟩
  | .hbm, ⟨75, _⟩ => ⟨S2x32x512, .f32⟩
  | .hbm, ⟨76, _⟩ => ⟨S2x32x512x1, .f32⟩
  | .hbm, ⟨77, _⟩ => ⟨S_, .f32⟩
  | .hbm, ⟨78, _⟩ => ⟨S_, .f32⟩
  | .hbm, ⟨79, _⟩ => ⟨S2x32x512x1, .i1⟩
  | .hbm, ⟨80, _⟩ => ⟨S2x32x512x1, .f32⟩
  | .hbm, ⟨81, _⟩ => ⟨S2x32x512x1, .f32⟩
  | .hbm, ⟨82, _⟩ => ⟨S2x32x512x512, .f32⟩
  | .hbm, ⟨83, _⟩ => ⟨S2x32x512x512, .f32⟩
  | .hbm, ⟨84, _⟩ => ⟨S1x1x512x1, .i1⟩
  | .hbm, ⟨85, _⟩ => ⟨S_, .f32⟩
  | .hbm, ⟨86, _⟩ => ⟨S_, .f32⟩
  | .hbm, ⟨87, _⟩ => ⟨S2x32x512x512, .i1⟩
  | .hbm, ⟨88, _⟩ => ⟨S2x32x512x512, .f32⟩
  | .hbm, ⟨89, _⟩ => ⟨S2x32x512x512, .f32⟩
  | .hbm, ⟨90, _⟩ => ⟨S2x32x64x512, .f32⟩
  | .hbm, ⟨91, _⟩ => ⟨S2x512x32x64, .f32⟩
  | .hbm, ⟨92, _⟩ => ⟨S2x512x2048, .f32⟩
  | .hbm, ⟨93, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_3 : Ref sig .tc := ⟨.hbm, 71, rfl⟩
abbrev main_v26 : Ref sig .tc := ⟨.hbm, 72, rfl⟩
abbrev main_v27 : Ref sig .tc := ⟨.hbm, 73, rfl⟩
abbrev main_cst_4 : Ref sig .tc := ⟨.hbm, 74, rfl⟩
abbrev main_v28 : Ref sig .tc := ⟨.hbm, 75, rfl⟩
abbrev main_v29 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_6 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.Contents.lean ====
/-
  The buffers of the kernel and what they hold.

  Every device computes the attention heads it owns into slot 0 of a scratch buffer of four slots, block by block: batch
  `b`, row half `a` (rows 256·a …), head `h` (columns 64·h …). The other three slots receive the neighbours' and the
  opposite device's heads, a column quarter (two heads) at a time. Here are the values (`topB`, `botB`, `att`, `G`), the
  sets of scratch elements the pieces and quarters are, and how these partition a slot.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The ring of devices -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
set_option backward.proofsInPublic true in
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide
def ring : Dev nD ≃ Dev nD := ⟨nxt, prv, prv_nxt, nxt_prv⟩

/-! ## The buffers -/

abbrev xM : Memref sig .tc .vmem S2x512x768 .bf16 := Memref.whole cc0_stg0_0
abbrev wqM : Memref sig .tc .vmem S768x2048 .bf16 := Memref.whole cc0_stg1_0
abbrev kM : Memref sig .tc .vmem S2x512x8x64 .bf16 := Memref.whole cc0_stg2_0
abbrev vM : Memref sig .tc .vmem S2x512x8x64 .bf16 := Memref.whole cc0_stg3_0
abbrev woM : Memref sig .tc .vmem S2048x768 .bf16 := Memref.whole cc0_stg4_0
abbrev oM : Memref sig .tc .vmem S2x512x768 .f32 := Memref.whole cc0_stg5_0
abbrev sM : Memref sig .tc .vmem S4x2x512x512 .bf16 := Memref.whole cc0_scratch0

/-! ## The rectangles the body reads and writes through -/

abbrev xRect (b : Fin 2) : Rect S2x512x768 := Rect.unit (s := S2x512x768) ![b, 0, 0] S1x512x768.size
  (by revert b; decide)
abbrev kRect (b : Fin 2) (h : Fin 8) : Rect S2x512x8x64 := Rect.unit (s := S2x512x8x64) ![b, 0, h, 0] S1x512x1x64.size
  (by revert b h; decide)
/-- Slot `s`, batch `b`: what the output products read. -/
abbrev sRect (s : Fin 4) (b : Fin 2) : Rect S4x2x512x512 := Rect.unit (s := S4x2x512x512) ![s, b, 0, 0] S1x1x512x512.size
  (by revert s b; decide)
/-- A block of slot 0: batch `b`, row half `a`, head `h`. -/
abbrev pRect (b a : Fin 2) (h : Fin 8) : Rect S4x2x512x512 := Rect.unit (s := S4x2x512x512) ![0, b, 256 * a, 64 * h] S1x1x256x64.size
  (by revert b a h; decide)
/-- Slot `s`'s column quarter `q`: what one transfer moves. -/
abbrev qRect (s q : Fin 4) : Rect S4x2x512x512 := Rect.unit (s := S4x2x512x512) ![s, 0, 0, 128 * q] S1x2x512x128.size
  (by revert s q; decide)
abbrev slotQ (s q : Fin 4) : Memref sig .tc .vmem S2x512x128 .bf16 :=
  ((sM : Memref sig .tc .vmem S4x2x512x512 .bf16).slice (qRect s q) (fun _ => rfl)).squeeze S2x512x128 squeezes_S1x2x512x128_S2x512x128

/-! ## What the arguments' staging buffers hold -/

variable (m : (ℓ : Loc nD τ sig) → Buf (Elt F) ℓ)

def xC (c : Dev nD) : (cc0_stg0_0 : Ref sig .tc).ty.Contents (Elt F) := (win0_0.blk (0 : Fin 1)).view.read (Elt F) (m ((c : Thread nD τ).loc main_arg0))
def wqC (c : Dev nD) : (cc0_stg1_0 : Ref sig .tc).ty.Contents (Elt F) := (win0_1.blk (0 : Fin 1)).view.read (Elt F) (m ((c : Thread nD τ).loc main_arg1))
def kC (c : Dev nD) : (cc0_stg2_0 : Ref sig .tc).ty.Contents (Elt F) := (win0_2.blk (0 : Fin 1)).view.read (Elt F) (m ((c : Thread nD τ).loc main_arg2))
def vC (c : Dev nD) : (cc0_stg3_0 : Ref sig .tc).ty.Contents (Elt F) := (win0_3.blk (0 : Fin 1)).view.read (Elt F) (m ((c : Thread nD τ).loc main_arg3))
def woC (c : Dev nD) : (cc0_stg4_0 : Ref sig .tc).ty.Contents (Elt F) := (win0_4.blk (0 : Fin 1)).view.read (Elt F) (m ((c : Thread nD τ).loc main_arg4))

abbrev xL (c : Dev nD) (b : Fin 2) : Vec F S1x512x768 .bf16 := (xM : Memref sig .tc .vmem S2x512x768 .bf16).view.readAt (Elt F) (xRect b).toLoadRect (xC m c)
abbrev wqL (c : Dev nD) : Vec F S768x512 .bf16 := (wqM : Memref sig .tc .vmem S768x2048 .bf16).view.readAt (Elt F)
  (Rect.unit (s := S768x2048) (k0_off1 c) S768x512.size (k0_off1_inb c)).toLoadRect (wqC m c)
abbrev kL (c : Dev nD) (b : Fin 2) (h : Fin 8) : Vec F S1x512x1x64 .bf16 := (kM : Memref sig .tc .vmem S2x512x8x64 .bf16).view.readAt (Elt F) (kRect b h).toLoadRect (kC m c)
abbrev vL (c : Dev nD) (b : Fin 2) (h : Fin 8) : Vec F S1x512x1x64 .bf16 := (vM : Memref sig .tc .vmem S2x512x8x64 .bf16).view.readAt (Elt F) (kRect b h).toLoadRect (vC m c)
/-- Rows `off 0 …` of the output projection's weights. -/
abbrev woL (c : Dev nD) (off : Fin 2 → ℕ) (h : ∀ a, off a + S512x768.size a ≤ S2048x768.size a) : Vec F S512x768 .bf16 :=
  (woM : Memref sig .tc .vmem S2048x768 .bf16).view.readAt (Elt F) (Rect.unit (s := S2048x768) off S512x768.size h).toLoadRect (woC m c)

/-! ## The attention blocks -/

/-- The masks of the upper and the lower rows. -/
abbrev maskT : IVec S256x256 1 := k0_pay4 (iota .tc S256x256 32 [0] iota_S256x256_d0_w32) (iota .tc S256x256 32 [1] iota_S256x256_d1_w32) k0_pay1 k0_pay2 k0_pay3
abbrev maskB : IVec S256x512 1 := k0_pay8 k0_pay5 (iota .tc S256x512 32 [1] iota_S256x512_d1_w32) 64#32 k0_pay6 k0_pay7 (Scalar.cmpi .sgt 64#32 0#32)

/-- The scaled query weights of the device's heads, and the queries of batch `b`. -/
abbrev wqS (c : Dev nD) : FVec F S768x512 .bf16 := k0_pay9 (wqL m c)
abbrev qB (c : Dev nD) (b : Fin 2) : FVec F S512x512 .f32 := k0_pay10 (wqS m c) (xL m c b)

theorem headSlices (h : Fin 8) : S512x512.Slices (![0, 64 * (h : ℕ)] : Fin 2 → ℕ) S512x64 := by revert h; decide

/-- Head `h` of the queries. -/
def headQ (h : Fin 8) (q : FVec F S512x512 .f32) : FVec F S512x64 .bf16 :=
  truncf .bf16 (extractStridedSlice S512x64 (![0, 64 * (h : ℕ)] : Fin 2 → ℕ) q (headSlices h)) bitsLt_bf16_f32
def headK (k : Vec F S1x512x1x64 .bf16) : FVec F S512x64 .bf16 := shapeCast S512x64 k shapeCasts_S1x512x1x64_S512x64

/-- The upper rows' block: the first 256 queries against the first 256 keys. -/
def attTop (mT : IVec S256x256 1) (q k v : FVec F S512x64 .bf16) : FVec F S1x1x256x64 .bf16 :=
  have s : FVec F S256x256 .f32 := matmul dot_S256x64_S256x64_S256x256_1_1_0_0_n_n none (extractStridedSlice S256x64 ![0, 0] q slices_S512x64_o0_0_S256x64)
    (extractStridedSlice S256x64 ![0, 0] k slices_S512x64_o0_0_S256x64) (constant S256x256 .f32 0x00000000#32)
  have e : FVec F S256x256 .f32 := exp2 (select mT s (broadcast S256x256 (Named.named κ "masked" 0xCE6E6B28#32)))
  have d : FVec F S256x1 .f32 := shapeCast S256x1 (multiReduction .add [1] S256 e 0x00000000#32 reduces_S256x256_S256 (.inl rfl) rfl) shapeCasts_S256_S256x1
  have o : FVec F S256x64 .f32 := matmul dot_S256x256_S256x64_S256x64_1_0_0_1_n_n none (truncf .bf16 e bitsLt_bf16_f32)
    (extractStridedSlice S256x64 ![0, 0] v slices_S512x64_o0_0_S256x64) (constant S256x64 .f32 0x00000000#32)
  shapeCast S1x1x256x64 (truncf .bf16 (mulf o (broadcastTo S256x64 (divf (broadcast S256x1 (Scalar.ofBits .f32 0x3F800000#32)) d) broadcasts_S256x1_S256x64)) bitsLt_bf16_f32)
    shapeCasts_S256x64_S1x1x256x64

/-- The lower rows' block: the last 256 queries against every key. -/
def attBot (mB : IVec S256x512 1) (q k v : FVec F S512x64 .bf16) : FVec F S1x1x256x64 .bf16 :=
  have s : FVec F S256x512 .f32 := matmul dot_S256x64_S512x64_S256x512_1_1_0_0_n_n none (extractStridedSlice S256x64 ![256, 0] q slices_S512x64_o256_0_S256x64)
    k (constant S256x512 .f32 0x00000000#32)
  have e : FVec F S256x512 .f32 := exp2 (select mB s (broadcast S256x512 (Named.named κ "masked" 0xCE6E6B28#32)))
  have d : FVec F S256x1 .f32 := shapeCast S256x1 (multiReduction .add [1] S256 e 0x00000000#32 reduces_S256x512_S256 (.inl rfl) rfl) shapeCasts_S256_S256x1
  have o : FVec F S256x64 .f32 := matmul dot_S256x512_S512x64_S256x64_1_0_0_1_n_n none (truncf .bf16 e bitsLt_bf16_f32)
    v (constant S256x64 .f32 0x00000000#32)
  shapeCast S1x1x256x64 (truncf .bf16 (mulf o (broadcastTo S256x64 (divf (broadcast S256x1 (Scalar.ofBits .f32 0x3F800000#32)) d) broadcasts_S256x1_S256x64)) bitsLt_bf16_f32)
    shapeCasts_S256x64_S1x1x256x64

/-- Device `c`'s block for batch `b`, row half `a`, head `h`. -/
def blk (c : Dev nD) (b a : Fin 2) (h : Fin 8) : FVec F S1x1x256x64 .bf16 :=
  if a = 0 then attTop maskT (headQ h (qB m c b)) (headK (kL m c b h)) (headK (vL m c b h))
  else attBot maskB (headQ h (qB m c b)) (headK (kL m c b h)) (headK (vL m c b h))

theorem blk_top (c : Dev nD) (b : Fin 2) (h : Fin 8) :
    blk m c b 0 h = attTop maskT (headQ h (qB m c b)) (headK (kL m c b h)) (headK (vL m c b h)) := if_pos rfl
theorem blk_bot (c : Dev nD) (b : Fin 2) (h : Fin 8) :
    blk m c b 1 h = attBot maskB (headQ h (qB m c b)) (headK (kL m c b h)) (headK (vL m c b h)) := if_neg (by decide)

abbrev SIx : Type := S4x2x512x512.Idx

/-- The coordinates of a slot's element: batch, row, column. -/
abbrev ib (i : SIx) : Fin 2 := i 1
abbrev ir (i : SIx) : Fin 512 := i 2
abbrev il (i : SIx) : Fin 512 := i 3

set_option backward.proofsInPublic true in
/-- Where row `r`, column `l` of a slot lies in its block. -/
def inBlk (r l : Fin 512) : S1x1x256x64.Idx :=
  Fin.cons ⟨0, by decide⟩ (Fin.cons ⟨0, by decide⟩ (Fin.cons ⟨(r : ℕ) % 256, Nat.mod_lt _ (by decide)⟩
    (Fin.cons ⟨(l : ℕ) % 64, Nat.mod_lt _ (by decide)⟩ (fun a => a.elim0))))

set_option backward.proofsInPublic true in
/-- Device `d`'s attention output at batch `b`, row `r` and column `l`. -/
def attOf (d : Dev nD) (b : Fin 2) (r l : Fin 512) : Elt F .bf16 :=
  blk m d b ⟨(r : ℕ) / 256, by have := r.2; omega⟩ ⟨(l : ℕ) / 64, by have := l.2; omega⟩ (inBlk r l)

/-- The same, read through the last three coordinates of a scratch index. -/
def att (d : Dev nD) (i : SIx) : Elt F .bf16 := attOf m d (ib i) (ir i) (il i)

/-- Whose heads slot `s` of device `c` holds in the end. -/
def src (s : Fin 4) (c : Dev nD) : Dev nD := match s with | 0 => c | 1 => prv c | 2 => nxt c | 3 => opp c

/-- Device `c`'s scratch in the end. -/
def G (c : Dev nD) : Buf (Elt F) ((c : Thread nD τ).loc cc0_scratch0) := fun i : SIx => att m (src (i 0) c) i

/-! ## Element sets of the scratch -/

/-- Slot `s`; its quarter `q`; slot 0's block (`b`, `a`, `h`). -/
def sset (s : Fin 4) : Finset SIx := Finset.univ.filter fun i => (i 0 : ℕ) = s
def qset (s q : Fin 4) : Finset SIx := Finset.univ.filter fun i => (i 0 : ℕ) = s ∧ (i 3 : ℕ) / 128 = q
def pset (b a : Fin 2) (h : Fin 8) : Finset SIx := Finset.univ.filter fun i => (i 0 : ℕ) = 0 ∧ (i 1 : ℕ) = b ∧ (i 2 : ℕ) / 256 = a ∧ (i 3 : ℕ) / 64 = h
def bset (s : Fin 4) (b : Fin 2) : Finset SIx := Finset.univ.filter fun i => (i 0 : ℕ) = s ∧ (i 1 : ℕ) = b

theorem mem_sset {s : Fin 4} {i : SIx} : i ∈ sset s ↔ (i 0 : ℕ) = s := by simp [sset]
theorem mem_qset {s q : Fin 4} {i : SIx} : i ∈ qset s q ↔ (i 0 : ℕ) = s ∧ (i 3 : ℕ) / 128 = q := by simp [qset]
theorem mem_pset {b a : Fin 2} {h : Fin 8} {i : SIx} : i ∈ pset b a h ↔ (i 0 : ℕ) = 0 ∧ (i 1 : ℕ) = b ∧ (i 2 : ℕ) / 256 = a ∧ (i 3 : ℕ) / 64 = h := by
  simp [pset]

theorem idx_lt (i : SIx) : (i 0 : ℕ) < 4 ∧ (i 1 : ℕ) < 2 ∧ (i 2 : ℕ) < 512 ∧ (i 3 : ℕ) < 512 :=
  ⟨(i 0).2, (i 1).2, (i 2).2, (i 3).2⟩

theorem forall_fin4 {P : Fin 4 → Prop} : (∀ a, P a) ↔ P 0 ∧ P 1 ∧ P 2 ∧ P 3 := by
  constructor
  · intro h; exact ⟨h 0, h 1, h 2, h 3⟩
  · rintro ⟨h0, h1, h2, h3⟩ a; fin_cases a <;> assumption

theorem mem_pRect (b a : Fin 2) (h : Fin 8) (i : SIx) : i ∈ (pRect b a h).set ↔ i ∈ pset b a h := by
  rw [Rect.mem_set_unit, forall_fin4, mem_pset]
  have := idx_lt i
  change ((0 : ℕ) ≤ i 0 ∧ (i 0 : ℕ) < 0 + 1) ∧ ((b : ℕ) ≤ i 1 ∧ (i 1 : ℕ) < b + 1) ∧ (256 * (a : ℕ) ≤ i 2 ∧ (i 2 : ℕ) < 256 * a + 256) ∧ (64 * (h : ℕ) ≤ i 3 ∧ (i 3 : ℕ) < 64 * h + 64) ↔ _
  omega

theorem mem_qRect (s q : Fin 4) (i : SIx) : i ∈ (qRect s q).set ↔ i ∈ qset s q := by
  rw [Rect.mem_set_unit, forall_fin4, mem_qset]
  have := idx_lt i
  change ((s : ℕ) ≤ i 0 ∧ (i 0 : ℕ) < s + 1) ∧ ((0 : ℕ) ≤ i 1 ∧ (i 1 : ℕ) < 0 + 2) ∧ (0 ≤ (i 2 : ℕ) ∧ (i 2 : ℕ) < 0 + 512) ∧ (128 * (q : ℕ) ≤ i 3 ∧ (i 3 : ℕ) < 128 * q + 128) ↔ _
  omega

theorem mem_sRect (s : Fin 4) (b : Fin 2) (i : SIx) : i ∈ (sRect s b).set ↔ (i 0 : ℕ) = s ∧ (i 1 : ℕ) = b := by
  rw [Rect.mem_set_unit, forall_fin4]
  have := idx_lt i
  change ((s : ℕ) ≤ i 0 ∧ (i 0 : ℕ) < s + 1) ∧ ((b : ℕ) ≤ i 1 ∧ (i 1 : ℕ) < b + 1) ∧ (0 ≤ (i 2 : ℕ) ∧ (i 2 : ℕ) < 0 + 512) ∧ (0 ≤ (i 3 : ℕ) ∧ (i 3 : ℕ) < 0 + 512) ↔ _
  omega

theorem pRect_set (b a : Fin 2) (h : Fin 8) : ((sM : Memref sig .tc .vmem S4x2x512x512 .bf16).access (pRect b a h)).set = pset b a h := by
  show ((View.whole cc0_scratch0).slice (pRect b a h)).set = _
  rw [View.set_slice_whole]
  exact Finset.ext fun i => mem_pRect b a h i

theorem slotQ_set (s q : Fin 4) : (slotQ s q).view.set = qset s q := by
  show (((View.whole cc0_scratch0).slice (qRect s q)).reshape _ _).set = _
  rw [View.set_reshape, View.set_slice_whole]
  exact Finset.ext fun i => mem_qRect s q i

theorem sRect_sub (s : Fin 4) (b : Fin 2) : (sM : Memref sig .tc .vmem S4x2x512x512 .bf16).view.setOn (sRect s b).toLoadRect.set ⊆ sset s := by
  intro i hi
  have hi' : i ∈ ((View.whole cc0_scratch0).slice (sRect s b)).set := by rw [View.set_slice]; exact hi
  rw [View.set_slice_whole] at hi'
  exact mem_sset.mpr ((mem_sRect s b i).mp hi').1

/-! ## Partitions -/

theorem univ_eq : (Finset.univ : Finset SIx) = sset 0 ∪ (sset 1 ∪ (sset 2 ∪ sset 3)) := by
  ext i; have := idx_lt i
  simp only [Finset.mem_univ, Finset.mem_union, mem_sset, true_iff]
  show (i 0 : ℕ) = 0 ∨ (i 0 : ℕ) = 1 ∨ (i 0 : ℕ) = 2 ∨ (i 0 : ℕ) = 3
  omega

theorem sset_eq (s : Fin 4) : sset s = qset s 0 ∪ (qset s 1 ∪ (qset s 2 ∪ qset s 3)) := by
  ext i; have := idx_lt i
  simp only [Finset.mem_union, mem_sset, mem_qset]
  show (i 0 : ℕ) = s ↔ ((i 0 : ℕ) = s ∧ (i 3 : ℕ) / 128 = 0) ∨ ((i 0 : ℕ) = s ∧ (i 3 : ℕ) / 128 = 1) ∨ ((i 0 : ℕ) = s ∧ (i 3 : ℕ) / 128 = 2) ∨ ((i 0 : ℕ) = s ∧ (i 3 : ℕ) / 128 = 3)
  omega

theorem sset_disj {s t : Fin 4} (h : s ≠ t) : Disjoint (sset s) (sset t) :=
  Finset.disjoint_left.mpr fun i hi hj => h (Fin.ext ((mem_sset.mp hi).symm.trans (mem_sset.mp hj)))
theorem qset_disj {s q r : Fin 4} (h : q ≠ r) : Disjoint (qset s q) (qset s r) :=
  Finset.disjoint_left.mpr fun i hi hj => h (Fin.ext ((mem_qset.mp hi).2.symm.trans (mem_qset.mp hj).2))
theorem pset_disj {b a b' a' : Fin 2} {h h' : Fin 8} (hne : (b, a, h) ≠ (b', a', h')) : Disjoint (pset b a h) (pset b' a' h') :=
  Finset.disjoint_left.mpr fun i hi hj => hne (by
    have h1 := mem_pset.mp hi; have h2 := mem_pset.mp hj
    rw [Prod.mk.injEq, Prod.mk.injEq]
    exact ⟨Fin.ext (by omega), Fin.ext (by omega), Fin.ext (by omega)⟩)

set_option backward.proofsInPublic true in
/-- The two heads of a quarter. -/
def hd (q : Fin 4) (e : Fin 2) : Fin 8 := ⟨2 * q + e, by omega⟩

/-- A quarter of slot 0 is the eight blocks of its two heads. -/
theorem qset_pieces (q : Fin 4) : qset 0 q = (Finset.univ : Finset (Fin 2 × Fin 2 × Fin 2)).biUnion fun t => pset t.2.1 t.2.2 (hd q t.1) := by
  ext i; have := idx_lt i
  simp only [Finset.mem_biUnion, Finset.mem_univ, true_and, mem_qset, mem_pset]
  constructor
  · rintro ⟨h0, h3⟩
    have hq := q.2
    refine ⟨(⟨(i 3 : ℕ) / 64 % 2, by omega⟩, ⟨(i 1 : ℕ), by omega⟩, ⟨(i 2 : ℕ) / 256, by omega⟩), h0, rfl, rfl, ?_⟩
    show (i 3 : ℕ) / 64 = 2 * q + (i 3 : ℕ) / 64 % 2
    omega
  · rintro ⟨⟨e, b, a⟩, h0, h1, h2, h3⟩
    have h3' : (i 3 : ℕ) / 64 = 2 * q + e := h3
    have := e.2
    exact ⟨h0, by omega⟩

theorem pieces_disj (q : Fin 4) : ∀ t ∈ (Finset.univ : Finset (Fin 2 × Fin 2 × Fin 2)), ∀ t' ∈ (Finset.univ : Finset (Fin 2 × Fin 2 × Fin 2)), t ≠ t' →
    Disjoint (pset t.2.1 t.2.2 (hd q t.1)) (pset t'.2.1 t'.2.2 (hd q t'.1)) := by
  rintro ⟨e, b, a⟩ - ⟨e', b', a'⟩ - hne
  refine pset_disj fun h => hne ?_
  rw [Prod.mk.injEq, Prod.mk.injEq] at h
  obtain ⟨h1, h2, h3⟩ := h
  have h3' : 2 * (q : ℕ) + e = 2 * q + e' := congrArg Fin.val h3
  rw [Prod.mk.injEq, Prod.mk.injEq]
  exact ⟨Fin.ext (by omega), h1, h2⟩

/-! ## What the stores and the transfers leave -/

theorem unit_emb_val {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = _; omega

theorem pRect_emb (b a : Fin 2) (h : Fin 8) (j : S1x1x256x64.Idx) :
    ∀ x, (((pRect b a h).emb j x : Fin _) : ℕ) = (![0, (b : ℕ), 256 * a, 64 * h] : Fin 4 → ℕ) x + (j x : ℕ) :=
  fun x => unit_emb_val _ _ _ j x

/-- A block of slot 0 written with its value agrees there with the final contents. -/
theorem write_piece (c : Dev nD) (b a : Fin 2) (h : Fin 8) (f : Buf (Elt F) ((c : Thread nD τ).loc cc0_scratch0)) :
    ∀ i ∈ pset b a h, ((sM : Memref sig .tc .vmem S4x2x512x512 .bf16).access (pRect b a h)).write (Elt F) f (blk m c b a h) Finset.univ i = G m c i := by
  intro i hi
  rw [← pRect_set] at hi
  obtain ⟨j, -, rfl⟩ := Finset.mem_map.mp hi
  rw [View.write_emb_of_mem _ _ (Finset.mem_univ j)]
  have e := pRect_emb b a h j
  have e0 : (((pRect b a h).emb j 0 : Fin _) : ℕ) = 0 + (j 0 : ℕ) := e 0
  have e1 : (((pRect b a h).emb j 1 : Fin _) : ℕ) = b + (j 1 : ℕ) := e 1
  have e2 : (((pRect b a h).emb j 2 : Fin _) : ℕ) = 256 * a + (j 2 : ℕ) := e 2
  have e3 : (((pRect b a h).emb j 3 : Fin _) : ℕ) = 64 * h + (j 3 : ℕ) := e 3
  have j0 : (j 0 : ℕ) < 1 := (j 0).2
  have j1 : (j 1 : ℕ) < 1 := (j 1).2
  have j2 : (j 2 : ℕ) < 256 := (j 2).2
  have j3 : (j 3 : ℕ) < 64 := (j 3).2
  show blk m c b a h j = att m (src ((pRect b a h).emb j 0) c) ((pRect b a h).emb j)
  have hs : src ((pRect b a h).emb j 0) c = c := by
    have : ((pRect b a h).emb j 0 : Fin 4) = (0 : Fin 4) := Fin.ext (by rw [e0]; show 0 + (j 0 : ℕ) = 0; omega)
    rw [this]; rfl
  rw [hs]
  unfold att attOf
  have hb : ib ((pRect b a h).emb j) = b := Fin.ext (by rw [show ((ib ((pRect b a h).emb j) : Fin 2) : ℕ) = _ from e1]; omega)
  have ha : ∀ p, (⟨(ir ((pRect b a h).emb j) : ℕ) / 256, p⟩ : Fin 2) = a := fun p => Fin.ext (by
    show (ir ((pRect b a h).emb j) : ℕ) / 256 = a
    rw [show ((ir ((pRect b a h).emb j) : Fin 512) : ℕ) = _ from e2]; omega)
  have hh : ∀ p, (⟨(il ((pRect b a h).emb j) : ℕ) / 64, p⟩ : Fin 8) = h := fun p => Fin.ext (by
    show (il ((pRect b a h).emb j) : ℕ) / 64 = h
    rw [show ((il ((pRect b a h).emb j) : Fin 512) : ℕ) = _ from e3]; omega)
  rw [hb, ha, hh]
  congr 1
  funext x
  refine Fin.ext ?_
  fin_cases x
  · show (j 0 : ℕ) = 0; omega
  · show (j 1 : ℕ) = 0; omega
  · show (j 2 : ℕ) = (ir ((pRect b a h).emb j) : ℕ) % 256
    rw [show ((ir ((pRect b a h).emb j) : Fin 512) : ℕ) = _ from e2]; omega
  · show (j 3 : ℕ) = (il ((pRect b a h).emb j) : ℕ) % 64
    rw [show ((il ((pRect b a h).emb j) : Fin 512) : ℕ) = _ from e3]; omega

/-- The value depends on a scratch index only through its last three coordinates. -/
theorem att_congr (d : Dev nD) {i j : SIx} (h1 : (i 1 : ℕ) = j 1) (h2 : (i 2 : ℕ) = j 2) (h3 : (i 3 : ℕ) = j 3) : att m d i = att m d j := by
  have e1 : ib i = ib j := Fin.ext h1
  have e2 : ir i = ir j := Fin.ext h2
  have e3 : il i = il j := Fin.ext h3
  unfold att
  rw [e1, e2, e3]

/-- A quarter of slot `s` of device `c` landing in slot `t` of device `c'` is what `c'` holds there in the end. -/
theorem landed_eq (c c' : Dev nD) (s t q : Fin 4) (hst : src t c' = src s c) (fd : Buf (Elt F) ((c' : Thread nD τ).loc cc0_scratch0)) :
    ∀ i ∈ qset t q, (slotQ t q).view.write (Elt F) fd ((slotQ s q).view.read (Elt F) (G m c)) Finset.univ i = G m c' i := by
  intro i hi
  rw [← slotQ_set] at hi
  obtain ⟨x, -, rfl⟩ := Finset.mem_map.mp hi
  rw [View.write_emb_of_mem _ _ (Finset.mem_univ x), View.read_apply]
  let y : S1x2x512x128.Idx := Shape.reshapeEquiv (squeezes_S1x2x512x128_S2x512x128).numel_eq x
  have et : ∀ a, (((qRect t q).emb y a : Fin _) : ℕ) = (![(t : ℕ), 0, 0, 128 * q] : Fin 4 → ℕ) a + (y a : ℕ) := fun a => unit_emb_val _ _ _ y a
  have es : ∀ a, (((qRect s q).emb y a : Fin _) : ℕ) = (![(s : ℕ), 0, 0, 128 * q] : Fin 4 → ℕ) a + (y a : ℕ) := fun a => unit_emb_val _ _ _ y a
  have y0 : (y 0 : ℕ) < 1 := (y 0).2
  show att m (src ((qRect s q).emb y 0) c) ((qRect s q).emb y) = att m (src ((qRect t q).emb y 0) c') ((qRect t q).emb y)
  have hs : ((qRect s q).emb y 0 : Fin 4) = s := Fin.ext (by rw [show (((qRect s q).emb y 0 : Fin 4) : ℕ) = s + (y 0 : ℕ) from es 0]; omega)
  have ht : ((qRect t q).emb y 0 : Fin 4) = t := Fin.ext (by rw [show (((qRect t q).emb y 0 : Fin 4) : ℕ) = t + (y 0 : ℕ) from et 0]; omega)
  rw [hs, ht, hst]
  exact att_congr m _ ((es 1).trans (et 1).symm) ((es 2).trans (et 2).symm) ((es 3).trans (et 3).symm)

end Cert.RingProof
-- ==== Proof.Protocol.lean ====
/-
  The protocol of the twelve transfers.

  Device `c` sends transfer `k` to `tgt k c`: column quarter `qq k` of its slot `srcs k` into the target's slot `dsts k`.
  Transfers 0–3 and 8, 9 go to the next device of the ring, 4–7 and 10, 11 to the previous one; 8–11 forward what
  arrived by 0, 2, 5 and 7. Each transfer has a send and a receive semaphore, used once. The runtime's barrier semaphore
  opens the kernel: a device signals both neighbours, and with each signal goes the right to write the landing places the
  signalled neighbour's transfers write in it.
-/
module

public import proofs.«01_k».proof.Proof.Contents

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline library's copy and the transfers' -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The transfers -/

/-- Whether transfer `k` goes to the next device. -/
def toNxt : Fin 12 → Bool := ![true, true, true, true, false, false, false, false, true, true, false, false]
def tgt (k : Fin 12) (c : Dev nD) : Dev nD := if toNxt k then nxt c else prv c
def orig (k : Fin 12) (c : Dev nD) : Dev nD := if toNxt k then prv c else nxt c
def srcs : Fin 12 → Fin 4 := ![0, 0, 0, 0, 0, 0, 0, 0, 1, 1, 2, 2]
def dsts : Fin 12 → Fin 4 := ![1, 1, 1, 1, 2, 2, 2, 2, 3, 3, 3, 3]
def qq : Fin 12 → Fin 4 := ![0, 1, 2, 3, 0, 1, 2, 3, 0, 2, 1, 3]
/-- The share of its source a transfer holds while in flight. -/
def sh (k : Fin 12) : PosShare TreeShare := if 4 ≤ (k : ℕ) ∧ (k : ℕ) < 8 then fullShare.right.left else fullShare.left

theorem tgt_orig (k : Fin 12) (c : Dev nD) : tgt k (orig k c) = c := by revert k c; decide
theorem orig_tgt (k : Fin 12) (c : Dev nD) : orig k (tgt k c) = c := by revert k c; decide
theorem src_tgt (k : Fin 12) (c : Dev nD) : src (dsts k) (tgt k c) = src (srcs k) c := by revert k c; decide

/-! ## The semaphores -/

abbrev barS : Sem sig := (SemArray.scalar (sig.barrier 0 rfl) : Sems sig S_).sem
set_option backward.proofsInPublic true in
def sS (k : Fin 12) : DmaSem sig := (⟨6 + k, by omega⟩ : Fin 30)
set_option backward.proofsInPublic true in
def rS (k : Fin 12) : DmaSem sig := (⟨18 + k, by omega⟩ : Fin 30)

abbrev barCell (c : Dev nD) : GSem nD τ sig := ((c : Thread nD τ), .reg barS)
abbrev sendCell (c : Dev nD) (k : Fin 12) : GSem nD τ sig := ((c : Thread nD τ), .dma (sS k))
abbrev recvCell (c : Dev nD) (k : Fin 12) : GSem nD τ sig := ((c : Thread nD τ), .dma (rS k))

/-- The kernel's own semaphores: the send ones, the receive ones; all of the protocol's: the barrier first. -/
def osem (i : Fin 24) : SemLoc sig := .dma (⟨6 + i, by omega⟩ : Fin 30)
def csem (i : Fin 25) : SemLoc sig := if (i : ℕ) = 0 then .reg barS else .dma (⟨5 + i, by omega⟩ : Fin 30)
abbrev kcell (ck : Dev nD × Fin 25) : GSem nD τ sig := ((ck.1 : Thread nD τ), csem ck.2)
set_option backward.proofsInPublic true in
def sIx (k : Fin 12) : Fin 25 := ⟨1 + k, by omega⟩
set_option backward.proofsInPublic true in
def rIx (k : Fin 12) : Fin 25 := ⟨13 + k, by omega⟩

theorem csem_bar : csem 0 = .reg barS := if_pos rfl
theorem csem_send (k : Fin 12) : csem (sIx k) = .dma (sS k) := by revert k; decide
theorem csem_recv (k : Fin 12) : csem (rIx k) = .dma (rS k) := by revert k; decide

/-- A transfer's credit. -/
abbrev N : ℕ := (slotQ 0 0).view.dmaCredit
theorem N_pos : 0 < N := View.dmaCredit_pos _ (by decide)

/-! ## The payloads -/

/-- Quarter `q` of slot `s` of device `c` at share `sh`, at its final contents; a landing place. -/
def qG (c : Dev nD) (s q : Fin 4) (p : PosShare TreeShare) : sProp 𝕄 := (c : Thread nD τ).loc cc0_scratch0 ↦[qset s q]{p} G m c
def landing (c : Dev nD) (k : Fin 12) : sProp 𝕄 := iprop(∃ f, (c : Thread nD τ).loc cc0_scratch0 ↦[qset (dsts k) (qq k)]{fullShare} f)

def barPay (d : Bool) (c : Dev nD) : sProp 𝕄 :=
  if d then iprop(landing (nxt c) 0 ∗ landing (nxt c) 1 ∗ landing (nxt c) 2 ∗ landing (nxt c) 3 ∗ landing (nxt c) 8 ∗ landing (nxt c) 9)
  else iprop(landing (prv c) 4 ∗ landing (prv c) 5 ∗ landing (prv c) 6 ∗ landing (prv c) 7 ∗ landing (prv c) 10 ∗ landing (prv c) 11)
def recvPay (c : Dev nD) (k : Fin 12) : sProp 𝕄 := qG m c (dsts k) (qq k) fullShare
def sendPay (c : Dev nD) (k : Fin 12) : sProp 𝕄 := qG m c (srcs k) (qq k) (sh k)

instance qG_storable (c : Dev nD) (s q : Fin 4) (p : PosShare TreeShare) : BI.Storable (upEmb : UEmb _ 𝕄) (qG m c s q p) := by unfold qG; infer_instance
instance landing_storable (c : Dev nD) (k : Fin 12) : BI.Storable (upEmb : UEmb _ 𝕄) (landing (F := F) c k) := by unfold landing; infer_instance

/-! ## The schedule: one round -/

set_option backward.proofsInPublic true in
def payOf (c : Dev nD) (d : Bool) : SemLoc sig → sProp 𝕄
  | .reg _ => barPay d c
  | .dma q => if h : 18 ≤ (q : ℕ) then recvPay m c ⟨(q : ℕ) - 18, by have := q.2; change (q : ℕ) < 30 at this; omega⟩
    else if h' : 6 ≤ (q : ℕ) then sendPay m c ⟨(q : ℕ) - 6, by omega⟩ else iprop(emp)

def dutiesOf : SemLoc sig → Finset Bool
  | .reg _ => Finset.univ
  | .dma q => if 6 ≤ (q : ℕ) then {false} else ∅

def amountOf' : SemLoc sig → ℕ
  | .reg _ => 1
  | .dma _ => N

def ringRd : Rounds.Schedule (GSem nD τ sig) Bool 𝕄 where
  duties g r := if r = 0 ∧ g.1.2 = .tc then dutiesOf g.2 else ∅
  unitless _ := False
  amount g _ _ := amountOf' g.2
  payload g _ d := payOf m g.1.1 d g.2
  amount_pos g _ _ _ := by
    show 0 < amountOf' g.2
    cases g.2
    · exact Nat.one_pos
    · exact N_pos

instance ringRd_payload_storable (g : GSem nD τ sig) (r : ℕ) (d : Bool) :
    BI.Storable (upEmb : UEmb _ 𝕄) ((ringRd (F := F) m).payload g r d) := by
  show BI.Storable upEmb (payOf m g.1.1 d g.2)
  unfold payOf barPay recvPay sendPay
  cases g.2 <;> dsimp only <;> (repeat' split) <;> infer_instance

section Sched
variable (c : Dev nD) (k : Fin 12)

theorem duties_bar : (ringRd (F := F) m).duties (barCell c) 0 = Finset.univ := by dsimp only [ringRd]; exact if_pos ⟨rfl, rfl⟩
theorem duties_send : (ringRd (F := F) m).duties (sendCell c k) 0 = {false} := by
  dsimp only [ringRd]; rw [if_pos ⟨rfl, rfl⟩]; exact if_pos (by show 6 ≤ 6 + (k : ℕ); omega)
theorem duties_recv : (ringRd (F := F) m).duties (recvCell c k) 0 = {false} := by
  dsimp only [ringRd]; rw [if_pos ⟨rfl, rfl⟩]; exact if_pos (by show 6 ≤ 18 + (k : ℕ); omega)
theorem duties_later (g : GSem nD τ sig) : ∀ r, 1 ≤ r → (ringRd (F := F) m).duties g r = ∅ :=
  fun r hr => by dsimp only [ringRd]; rw [if_neg fun h => by omega]

theorem amount_bar (d : Bool) : (ringRd (F := F) m).amount (barCell c) 0 d = 1 := rfl
theorem amount_send (d : Bool) : (ringRd (F := F) m).amount (sendCell c k) 0 d = N := rfl
theorem amount_recv (d : Bool) : (ringRd (F := F) m).amount (recvCell c k) 0 d = N := rfl

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (ringRd (F := F) m).expect (sendCell c k) 0 = N := by
  unfold Schedule.expect Schedule.amountOf; rw [duties_send, Finset.sum_singleton, amount_send]
theorem expect_recv : (ringRd (F := F) m).expect (recvCell c k) 0 = N := by
  unfold Schedule.expect Schedule.amountOf; rw [duties_recv, Finset.sum_singleton, amount_recv]

theorem payload_bar (d : Bool) : (ringRd (F := F) m).payload (barCell c) 0 d = barPay d c := rfl
theorem payload_send (d : Bool) : (ringRd (F := F) m).payload (sendCell c k) 0 d = sendPay m c k := by
  show payOf m c d (.dma (sS k)) = _
  unfold payOf
  dsimp only
  rw [dif_neg (show ¬ 18 ≤ (sS k : ℕ) from show ¬ 18 ≤ 6 + (k : ℕ) by omega), dif_pos (show 6 ≤ (sS k : ℕ) from show 6 ≤ 6 + (k : ℕ) by omega)]
  congr 1
  exact Fin.ext (show 6 + (k : ℕ) - 6 = k by omega)
theorem payload_recv (d : Bool) : (ringRd (F := F) m).payload (recvCell c k) 0 d = recvPay m c k := by
  show payOf m c d (.dma (rS k)) = _
  unfold payOf
  dsimp only
  rw [dif_pos (show 18 ≤ (rS k : ℕ) from show 18 ≤ 18 + (k : ℕ) by omega)]
  congr 1
  exact Fin.ext (show 18 + (k : ℕ) - 18 = k by omega)

theorem rest_bar : bigSep ((ringRd (F := F) m).duties (barCell c) 0 \ ∅) (fun d => (ringRd (F := F) m).payload (barCell c) 0 d) = iprop(barPay false c ∗ barPay true c) := by
  rw [Finset.sdiff_empty, duties_bar, bigSep_univ_eq_bigSepL [false, true] (by decide) (by decide), bigSepL_cons_cons, bigSepL_singleton]
  rfl
theorem rest_send : bigSep ((ringRd (F := F) m).duties (sendCell c k) 0 \ ∅) (fun d => (ringRd (F := F) m).payload (sendCell c k) 0 d) = sendPay m c k := by
  rw [Finset.sdiff_empty, duties_send, bigSep_singleton, payload_send]
theorem rest_recv : bigSep ((ringRd (F := F) m).duties (recvCell c k) 0 \ ∅) (fun d => (ringRd (F := F) m).payload (recvCell c k) 0 d) = recvPay m c k := by
  rw [Finset.sdiff_empty, duties_recv, bigSep_singleton, payload_recv]

end Sched

/-! ## What a device owes; the levels -/

/-- What device `c` owes for the transfers of `l`, the first of which it issues next. -/
def Ow (c : Dev nD) : List (Fin 12) → CellTallies nD τ sig Unit
  | [] => 0
  | k :: l => Ow c l + tallyAt (recvCell (tgt k c) k) () N

/-- The transfers in the order the body issues them. -/
abbrev order : List (Fin 12) := [0, 4, 1, 5, 2, 6, 8, 10, 3, 7, 9, 11]

def O₁ (c : Dev nD) : CellTallies nD τ sig Unit := Ow c order + tallyAt (barCell (nxt c)) () 1
def O₀ (c : Dev nD) : CellTallies nD τ sig Unit := O₁ c + tallyAt (barCell (prv c)) () 1

def L (g : GSem nD τ sig) : Finset Unit := if g.1.2 = .tc then {()} else ∅
/-- Barrier 1; receive semaphores 2 (from a neighbour's own early transfers), 3 (later), 4 (the last); the rest 0. -/
def lvS : SemLoc sig → ℕ
  | .reg _ => 1
  | .dma q => if (q : ℕ) < 18 then 0 else if (q : ℕ) = 29 then 4 else if (q : ℕ) = 21 ∨ 25 ≤ (q : ℕ) then 3 else 2
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem Ow_pos {c : Dev nD} {l : List (Fin 12)} {g : GSem nD τ sig} {u : Unit} (h : 0 < Ow c l g u) : ∃ k ∈ l, g = recvCell (tgt k c) k := by
  induction l with
  | nil => exact absurd h (Nat.lt_irrefl 0)
  | cons k l ih =>
    unfold Ow at h
    rw [Pi.add_apply, Finsupp.add_apply, tallyAt_apply] at h
    by_cases hg : g = recvCell (tgt k c) k
    · exact ⟨k, List.mem_cons_self, hg⟩
    · rw [if_neg (fun h' => hg h'.1), Nat.add_zero] at h
      obtain ⟨j, hj, e⟩ := ih h
      exact ⟨j, List.mem_cons_of_mem _ hj, e⟩

theorem O₀_pos {c : Dev nD} {g : GSem nD τ sig} {u : Unit} (h : 0 < O₀ c g u) :
    (∃ k, g = recvCell (tgt k c) k) ∨ g = barCell (prv c) ∨ g = barCell (nxt c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.2 h'.1), if_neg (fun h' => hn.2.1 h'.1)] at h
  simp only [Nat.add_zero] at h
  obtain ⟨k, -, e⟩ := Ow_pos h
  exact hn.1 ⟨k, e⟩

/-- A wait below every transfer still owed. -/
theorem mayWait_ow (c : Dev nD) (sm : SemLoc sig) (l : List (Fin 12)) (n : ℕ) (h1 : lvS sm ≤ n) (h2 : ∀ j ∈ l, n < lvS (.dma (rS j))) :
    (levAts L lv : sProp 𝕄) ⊢ MayWait (c : Thread nD τ) sm () (Ow c l) :=
  MayOwe.of_cut (L := L) (lev := lv) n (fun p hp => by rw [Finset.mem_singleton.mp hp, L_tc]; exact Finset.mem_singleton_self _)
    (fun g u hg => by obtain ⟨k, -, rfl⟩ := Ow_pos hg; rw [L_tc]; exact Finset.mem_singleton_self _)
    (fun p hp => by rw [Finset.mem_singleton.mp hp]; exact h1)
    (fun g u hg => by obtain ⟨k, hk, rfl⟩ := Ow_pos hg; exact h2 k hk)

theorem lv_recv_pos (k : Fin 12) : 1 < lvS (.dma (rS k)) := by revert k; decide

theorem mayWait_stage (c : Dev nD) (q : DmaSem sig) (hq : (q : ℕ) < 18) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by
        rw [Finset.mem_singleton.mp hp]
        show lvS (.dma q) ≤ 0
        unfold lvS; dsimp only; rw [if_pos hq])
      (fun g u hg => by
        rcases O₀_pos hg with ⟨k, rfl⟩ | rfl | rfl
        · exact lt_trans Nat.zero_lt_one (lv_recv_pos k)
        · exact Nat.one_pos
        · exact Nat.one_pos)
  · rw [MayWait_zero]; iintro -; iempintro

/-! ## The ghost state of a device -/

/-- Every cell's invariant and that it is at round 0 or later. -/
def records (K : Dev nD × Fin 25 → ℕ) : sProp 𝕄 :=
  iprop((bigSep Finset.univ fun ck : Dev nD × Fin 25 => cellInv ER (ringRd m) (K ck) (kcell ck))
    ∗ bigSep Finset.univ fun ck : Dev nD × Fin 25 => reached ER (kcell ck) 0)

instance records_persistent (K : Dev nD × Fin 25 → ℕ) : BI.Persistent (records m K) := by unfold records; infer_instance

section Records
variable (K : Dev nD × Fin 25 → ℕ) (c : Dev nD) (k : Fin 12)

theorem inv_at (ck : Dev nD × Fin 25) : records m K ⊢ cellInv ER (ringRd m) (K ck) (kcell ck) := by
  unfold records
  exact sep_elim_left.trans (bigSep_elim (Finset.mem_univ ck))
theorem reached_at (ck : Dev nD × Fin 25) : records m K ⊢ reached ER (kcell ck) 0 := by
  unfold records
  exact sep_elim_right.trans (bigSep_elim (Finset.mem_univ ck))

theorem inv_bar : records m K ⊢ cellInv ER (ringRd m) (K (c, 0)) (barCell c) := inv_at m K (c, 0)
theorem inv_send : records m K ⊢ cellInv ER (ringRd m) (K (c, sIx k)) (sendCell c k) := by
  have h := inv_at m K (c, sIx k); unfold kcell at h; rwa [csem_send] at h
theorem inv_recv : records m K ⊢ cellInv ER (ringRd m) (K (c, rIx k)) (recvCell c k) := by
  have h := inv_at m K (c, rIx k); unfold kcell at h; rwa [csem_recv] at h
theorem reached_bar : records m K ⊢ reached ER (barCell c) 0 := reached_at m K (c, 0)
theorem reached_send : records m K ⊢ reached ER (sendCell c k) 0 := by
  have h := reached_at m K (c, sIx k); unfold kcell at h; rwa [csem_send] at h
theorem reached_recv : records m K ⊢ reached ER (recvCell c k) 0 := by
  have h := reached_at m K (c, rIx k); unfold kcell at h; rwa [csem_recv] at h

end Records

/-- What device `c` sends transfer `k` with; what it waits for transfer `k` into it with; what it waits for the source of
    its transfer `k` with. -/
def xfer (c : Dev nD) (k : Fin 12) : sProp 𝕄 :=
  iprop(dutyTok ER (sendCell c k) 0 false ∗ dutyTok ER (recvCell (tgt k c) k) 0 false ∗ atPos ER (sendCell c k) 0 ∅ 0)
def rcv (c : Dev nD) (k : Fin 12) : sProp 𝕄 := iprop(atPos ER (recvCell c k) 0 ∅ 0 ∗ cred (tallyAt (recvCell c k) () N))
def sent (c : Dev nD) (k : Fin 12) : sProp 𝕄 := iprop(cred (tallyAt (sendCell c k) () N) ∗ atPos ER (sendCell c k) 0 ∅ 0)

/-- What device `c` owes, whatever it has waited for. -/
def ow (c : Dev nD) (l : List (Fin 12)) : sProp 𝕄 := iprop(∃ W, owes (c : Thread nD τ) (Ow c l) W)

/-- The ghost state device `c` starts from. -/
def ghost (K : Dev nD × Fin 25 → ℕ) (c : Dev nD) : sProp 𝕄 :=
  iprop(records m K ∗ atPos ER (barCell c) 0 ∅ 0 ∗ dutyTok ER (barCell (prv c)) 0 true ∗ dutyTok ER (barCell (nxt c)) 0 false
    ∗ (bigSep Finset.univ fun k => xfer c k) ∗ (bigSep Finset.univ fun k => atPos ER (recvCell c k) 0 ∅ 0))

/-- With its credit and the levels. -/
def start (c : Dev nD) : sProp 𝕄 :=
  iprop((∃ K, ghost m K c) ∗ cred (tallyAt (barCell c) () 2) ∗ (bigSep Finset.univ fun k => cred (tallyAt (recvCell c k) () N)) ∗ levAts L lv)

def Φ₀ (c : Dev nD) : sProp 𝕄 := iprop(start m c ∗ ∃ f, (c : Thread nD τ).loc cc0_scratch0 ↦{fullShare} f)
def Φ₁ (c : Dev nD) : sProp 𝕄 :=
  iprop(((c : Thread nD τ).loc cc0_scratch0 ↦{fullShare} G m c) ∗ semVal (barCell c) 0
    ∗ (bigSep Finset.univ fun k => semVal (sendCell c k) 0) ∗ (bigSep Finset.univ fun k => semVal (recvCell c k) 0))

theorem bigSep_fin12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

end Cert.RingProof
-- ==== Proof.Rules.lean ====
/-
  One rule per kind of step of the body: the loads, the stores, the transfers, the waits, each over the contents the
  buffers have at that point.
-/
module

public import proofs.«01_k».proof.Proof.Protocol

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (m : (ℓ : Loc nD τ sig) → Buf (Elt F) ℓ)

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The staged arguments -/

def xP (c : Dev nD) : sProp 𝕄 := (c : Thread nD τ).loc cc0_stg0_0 ↦{fullShare} xC m c
def wqP (c : Dev nD) : sProp 𝕄 := (c : Thread nD τ).loc cc0_stg1_0 ↦{fullShare} wqC m c
def kP (c : Dev nD) : sProp 𝕄 := (c : Thread nD τ).loc cc0_stg2_0 ↦{fullShare} kC m c
def vP (c : Dev nD) : sProp 𝕄 := (c : Thread nD τ).loc cc0_stg3_0 ↦{fullShare} vC m c
def woP (c : Dev nD) : sProp 𝕄 := (c : Thread nD τ).loc cc0_stg4_0 ↦{fullShare} woC m c

section Loads
variable (c : Dev nD)

theorem wp_ldX {α : Type} {Q : α → sProp 𝕄} (b : Fin 2) {hl} {k : Vec F S1x512x768 .bf16 → Prog (TpuEff nD τ sig (Elt F) Λ₀ .tc) α} :
    xP m c ⊢ iprop((xP m c -∗ WP c (k (xL m c b)) Q) -∗ WP c (.op (.load xM (xRect b).toLoadRect hl) k) Q) := by
  unfold xP; exact wp_load 𝒱₀ (c : Thread nD τ) none Set.univ (m := xM) (Finset.subset_univ _)
theorem wp_ldWq {α : Type} {Q : α → sProp 𝕄} {hl} {k : Vec F S768x512 .bf16 → Prog (TpuEff nD τ sig (Elt F) Λ₀ .tc) α} :
    wqP m c ⊢ iprop((wqP m c -∗ WP c (k (wqL m c)) Q)
      -∗ WP c (.op (.load wqM (Rect.unit (s := S768x2048) (k0_off1 c) S768x512.size (k0_off1_inb c)).toLoadRect hl) k) Q) := by
  unfold wqP; exact wp_load 𝒱₀ (c : Thread nD τ) none Set.univ (m := wqM) (Finset.subset_univ _)
theorem wp_ldK {α : Type} {Q : α → sProp 𝕄} (b : Fin 2) (h : Fin 8) {hl} {k : Vec F S1x512x1x64 .bf16 → Prog (TpuEff nD τ sig (Elt F) Λ₀ .tc) α} :
    kP m c ⊢ iprop((kP m c -∗ WP c (k (kL m c b h)) Q) -∗ WP c (.op (.load kM (kRect b h).toLoadRect hl) k) Q) := by
  unfold kP; exact wp_load 𝒱₀ (c : Thread nD τ) none Set.univ (m := kM) (Finset.subset_univ _)
theorem wp_ldV {α : Type} {Q : α → sProp 𝕄} (b : Fin 2) (h : Fin 8) {hl} {k : Vec F S1x512x1x64 .bf16 → Prog (TpuEff nD τ sig (Elt F) Λ₀ .tc) α} :
    vP m c ⊢ iprop((vP m c -∗ WP c (k (vL m c b h)) Q) -∗ WP c (.op (.load vM (kRect b h).toLoadRect hl) k) Q) := by
  unfold vP; exact wp_load 𝒱₀ (c : Thread nD τ) none Set.univ (m := vM) (Finset.subset_univ _)
theorem wp_ldWo {α : Type} {Q : α → sProp 𝕄} (off : Fin 2 → ℕ) (h) {hl} {k : Vec F S512x768 .bf16 → Prog (TpuEff nD τ sig (Elt F) Λ₀ .tc) α} :
    woP m c ⊢ iprop((woP m c -∗ WP c (k (woL m c off h)) Q)
      -∗ WP c (.op (.load woM (Rect.unit (s := S2048x768) off S512x768.size h).toLoadRect hl) k) Q) := by
  unfold woP; exact wp_load 𝒱₀ (c : Thread nD τ) none Set.univ (m := woM) (Finset.subset_univ _)

end Loads

/-! ## The scratch: blocks of slot 0 and whole slots -/

/-- A block of slot 0 before its store, and after. -/
def pAny (c : Dev nD) (b a : Fin 2) (h : Fin 8) : sProp 𝕄 := iprop(∃ f, (c : Thread nD τ).loc cc0_scratch0 ↦[pset b a h]{fullShare} f)
def pG (c : Dev nD) (b a : Fin 2) (h : Fin 8) : sProp 𝕄 := (c : Thread nD τ).loc cc0_scratch0 ↦[pset b a h]{fullShare} G m c
/-- A slot at its final contents. -/
def sP (c : Dev nD) (s : Fin 4) (p : PosShare TreeShare) : sProp 𝕄 := (c : Thread nD τ).loc cc0_scratch0 ↦[sset s]{p} G m c
abbrev sL (c : Dev nD) (s : Fin 4) (b : Fin 2) : Vec F S1x1x512x512 .bf16 := (sM : Memref sig .tc .vmem S4x2x512x512 .bf16).view.readAt (Elt F) (sRect s b).toLoadRect (G m c)

section Scratch
variable (c : Dev nD)

theorem pRect_sub (b a : Fin 2) (h : Fin 8) : (sM : Memref sig .tc .vmem S4x2x512x512 .bf16).view.setOn (pRect b a h).toLoadRect.set ⊆ pset b a h := by
  intro i hi
  have hi' : i ∈ ((View.whole cc0_scratch0).slice (pRect b a h)).set := by rw [View.set_slice]; exact hi
  rw [View.set_slice_whole] at hi'
  exact (mem_pRect b a h i).mp hi'

/-- A block's store, after the load whose value the body drops. -/
theorem wp_piece {α : Type} {Q : α → sProp 𝕄} (b a : Fin 2) (h : Fin 8) {hl} {w : FVec F S1x1x256x64 .bf16} (hw : w = blk m c b a h) {hst hm}
    {k : PUnit → Prog (TpuEff nD τ sig (Elt F) Λ₀ .tc) α} :
    pAny c b a h ⊢ iprop((pG m c b a h -∗ WP c (k ⟨⟩) Q)
      -∗ WP c (.op (.load sM (pRect b a h).toLoadRect hl) fun _ => .op (.store sM (pRect b a h) w Finset.univ hst hm) k) Q) := by
  subst hw
  unfold pAny pG
  iintro ⟨%f, H⟩ Hk
  iapply (wp_load 𝒱₀ (c : Thread nD τ) none Set.univ (m := sM) (pRect_sub b a h)) $$ H; iintro H
  iapply (wp_store 𝒱₀ (c : Thread nD τ) none Set.univ (m := sM) (r := pRect b a h) (Mk := Finset.univ) (S := pset b a h)
    (by rw [← pRect_set b a h]; exact Finset.Subset.refl _)) $$ H
  iintro H
  iapply Hk
  ihave H := (Entails.of_eq (pointsTo_congr (write_piece m c b a h f))) $$ H
  iexact H

theorem wp_ldS {α : Type} {Q : α → sProp 𝕄} (s : Fin 4) (b : Fin 2) (p : PosShare TreeShare) {hl} {k : Vec F S1x1x512x512 .bf16 → Prog (TpuEff nD τ sig (Elt F) Λ₀ .tc) α} :
    sP m c s p ⊢ iprop((sP m c s p -∗ WP c (k (sL m c s b)) Q) -∗ WP c (.op (.load sM (sRect s b).toLoadRect hl) k) Q) := by
  unfold sP; exact wp_load 𝒱₀ (c : Thread nD τ) none Set.univ (m := sM) (sRect_sub s b)

end Scratch

/-! ## The result: its two batches -/

abbrev OIx : Type := S2x512x768.Idx
def oset (b : Fin 2) : Finset OIx := Finset.univ.filter fun i => (i 0 : ℕ) = b
theorem mem_oset {b : Fin 2} {i : OIx} : i ∈ oset b ↔ (i 0 : ℕ) = b := by simp [oset]

set_option backward.proofsInPublic true in
def inHalf (i : OIx) : S1x512x768.Idx :=
  Fin.cons ⟨0, by decide⟩ (Fin.cons (i 1 : Fin 512) (Fin.cons (i 2 : Fin 768) (fun a => a.elim0)))

/-- The result buffer whose batch is `v` (whichever batch one looks at). -/
def oF (c : Dev nD) (v : FVec F S1x512x768 .f32) : Buf (Elt F) ((c : Thread nD τ).loc cc0_stg5_0) := fun i : OIx => v (inHalf i)

def oAny (c : Dev nD) (b : Fin 2) : sProp 𝕄 := iprop(∃ f, (c : Thread nD τ).loc cc0_stg5_0 ↦[oset b]{fullShare} f)
def oP (c : Dev nD) (b : Fin 2) (v : FVec F S1x512x768 .f32) : sProp 𝕄 := (c : Thread nD τ).loc cc0_stg5_0 ↦[oset b]{fullShare} oF c v

theorem oP_any (c : Dev nD) (b : Fin 2) (v : FVec F S1x512x768 .f32) : oP c b v ⊢ oAny c b := by
  unfold oP oAny; iintro H; iexists _; iexact H

theorem mem_oRect (b : Fin 2) (i : OIx) : i ∈ (xRect b).set ↔ i ∈ oset b := by
  rw [Rect.mem_set_unit, mem_oset]
  have h0 : (i 0 : ℕ) < 2 := (i 0).2
  have h1 : (i 1 : ℕ) < 512 := (i 1).2
  have h2 : (i 2 : ℕ) < 768 := (i 2).2
  constructor
  · intro h
    have h' : (b : ℕ) ≤ i 0 ∧ (i 0 : ℕ) < b + 1 := h 0
    omega
  · intro h a
    fin_cases a
    · show (b : ℕ) ≤ i 0 ∧ (i 0 : ℕ) < b + 1; omega
    · show (0 : ℕ) ≤ i 1 ∧ (i 1 : ℕ) < 0 + 512; omega
    · show (0 : ℕ) ≤ i 2 ∧ (i 2 : ℕ) < 0 + 768; omega

theorem oRect_sub (b : Fin 2) : (oM : Memref sig .tc .vmem S2x512x768 .f32).view.setOn (xRect b).toLoadRect.set ⊆ oset b := by
  intro i hi
  have hi' : i ∈ ((View.whole cc0_stg5_0).slice (xRect b)).set := by rw [View.set_slice]; exact hi
  rw [View.set_slice_whole] at hi'
  exact (mem_oRect b i).mp hi'
theorem oRect_set (b : Fin 2) : ((oM : Memref sig .tc .vmem S2x512x768 .f32).access (xRect b)).set = oset b := by
  show ((View.whole cc0_stg5_0).slice (xRect b)).set = _
  rw [View.set_slice_whole]
  exact Finset.ext fun i => mem_oRect b i

theorem inHalf_emb (b : Fin 2) (j : S1x512x768.Idx) : inHalf ((xRect b).emb j) = j := by
  have e : ∀ a, (((xRect b).emb j a : Fin _) : ℕ) = (![(b : ℕ), 0, 0] : Fin 3 → ℕ) a + (j a : ℕ) := fun a => unit_emb_val _ _ _ j a
  have j0 : (j 0 : ℕ) < 1 := (j 0).2
  funext a
  refine Fin.ext ?_
  fin_cases a
  · show 0 = (j 0 : ℕ); omega
  · show (((xRect b).emb j 1 : Fin _) : ℕ) = (j 1 : ℕ)
    rw [show (((xRect b).emb j 1 : Fin _) : ℕ) = 0 + (j 1 : ℕ) from e 1, Nat.zero_add]
  · show (((xRect b).emb j 2 : Fin _) : ℕ) = (j 2 : ℕ)
    rw [show (((xRect b).emb j 2 : Fin _) : ℕ) = 0 + (j 2 : ℕ) from e 2, Nat.zero_add]

section Result
variable (c : Dev nD)

theorem wp_ldO {α : Type} {Q : α → sProp 𝕄} (b : Fin 2) (v : FVec F S1x512x768 .f32) {hl} {k : Vec F S1x512x768 .f32 → Prog (TpuEff nD τ sig (Elt F) Λ₀ .tc) α} :
    oP c b v ⊢ iprop((oP c b v -∗ WP c (k v) Q) -∗ WP c (.op (.load oM (xRect b).toLoadRect hl) k) Q) := by
  unfold oP
  have hv : (oM : Memref sig .tc .vmem S2x512x768 .f32).view.readAt (Elt F) (xRect b).toLoadRect (oF c v) = v := by
    funext j
    show v (inHalf ((xRect b).emb j)) = v j
    rw [inHalf_emb]
  have h : ∀ u, (oM : Memref sig .tc .vmem S2x512x768 .f32).view.readAt (Elt F) (xRect b).toLoadRect (oF c v) = u →
      (((c : Thread nD τ).loc cc0_stg5_0 ↦[oset b]{fullShare} oF c v : sProp 𝕄) ⊢ iprop((((c : Thread nD τ).loc cc0_stg5_0 ↦[oset b]{fullShare} oF c v) -∗ WP c (k u) Q)
        -∗ WP c (.op (.load oM (xRect b).toLoadRect hl) k) Q)) := by
    rintro _ rfl
    exact wp_load 𝒱₀ (c : Thread nD τ) none Set.univ (m := oM) (oRect_sub b)
  exact h v hv

theorem wp_stO {α : Type} {Q : α → sProp 𝕄} (b : Fin 2) {hl} {w v : FVec F S1x512x768 .f32} (hw : w = v) {hst hm} {k : PUnit → Prog (TpuEff nD τ sig (Elt F) Λ₀ .tc) α} :
    oAny c b ⊢ iprop((oP c b v -∗ WP c (k ⟨⟩) Q)
      -∗ WP c (.op (.load oM (xRect b).toLoadRect hl) fun _ => .op (.store oM (xRect b) w Finset.univ hst hm) k) Q) := by
  subst hw
  unfold oAny oP
  iintro ⟨%f, H⟩ Hk
  iapply (wp_load 𝒱₀ (c : Thread nD τ) none Set.univ (m := oM) (oRect_sub b)) $$ H; iintro H
  iapply (wp_store 𝒱₀ (c : Thread nD τ) none Set.univ (m := oM) (r := xRect b) (Mk := Finset.univ) (S := oset b)
    (by rw [← oRect_set b]; exact Finset.Subset.refl _)) $$ H
  iintro H
  iapply Hk
  ihave H := (Entails.of_eq (pointsTo_congr (g := oF c w) (fun i hi => by
    rw [← oRect_set b] at hi
    obtain ⟨j, -, rfl⟩ := Finset.mem_map.mp hi
    rw [View.write_emb_of_mem _ _ (Finset.mem_univ j)]
    show w j = w (inHalf ((xRect b).emb j))
    rw [inHalf_emb]))) $$ H
  iexact H

end Result

/-! ## The transfers and the waits -/

section Comm
variable (K : Dev nD × Fin 25 → ℕ) (c : Dev nD)

theorem slotQ_credit (s q : Fin 4) : (slotQ s q).view.dmaCredit = N := rfl
theorem slotQ_amount (s q : Fin 4) (sm : DmaSem sig) : (slotQ s q).view.amount (.dma sm) = N := rfl

/-- Transfer `k`: its source quarter's share and the landing place go in; what is left to do for it comes out. -/
theorem wp_snd {α : Type} {Q : α → sProp 𝕄} (k : Fin 12) (l : List (Fin 12)) (n : Dev nD) (hn : n = tgt k c)
    {vs vd : Memref sig .tc .vmem S2x512x128 .bf16} (hvs : vs = slotQ (srcs k) (qq k)) (hvd : vd = slotQ (dsts k) (qq k))
    {ss rs : DmaSem sig} (hss : ss = sS k) (hrs : rs = rS k)
    {hsc : (vd : Memref sig (Dev.tc n : Thread nD τ).2.kind .vmem S2x512x128 .bf16).view.ref.isScScratch = false}
    {hsrc : vs.view.WordExact} {hdst : vd.view.WordExact}
    {hsem : DmaTarget.Typed .vmem (.dma rs) (.remote (Dev.tc n : Thread nD τ) vd (.dma ss) hsc)}
    {kk : PUnit → Prog (TpuEff nD τ sig (Elt F) Λ₀ .tc) α} :
    iprop(records m K ∗ sendPay m c k ∗ landing (tgt k c) k ∗ xfer c k ∗ ow c (k :: l))
      ⊢ iprop(((sent c k ∗ ow c l) -∗ WP c (kk ⟨⟩) Q)
          -∗ WP c (.op (.enqueueDma vs (.remote (Dev.tc n : Thread nD τ) vd (.dma ss) hsc) (.dma rs) hsrc hdst hsem) kk) Q) := by
  subst hn hvs hvd hss hrs
  unfold landing xfer ow
  iintro ⟨#HR, Hs, ⟨%f, Hd⟩, ⟨HtS, HtR, Hat⟩, ⟨%W, HO⟩⟩ Hk
  iapply (Rounds.wp_send_pointsTo 𝒱₀ ER (ringRd m) (c : Thread nD τ) none (κ₁ := K (c, sIx k)) (κ₂ := K (tgt k c, rIx k))
    (r₁ := 0) (r₂ := 0) (d₁ := false) (d₂ := false) (fd := f) (fs := G m c) (q := sh k)
    (by rw [duties_send]; exact Finset.mem_singleton_self _) (by rw [duties_recv]; exact Finset.mem_singleton_self _)
    () () N (slotQ_amount _ _ _) (amount_send m c k false) (amount_recv m (tgt k c) k false) (Ow c l) rfl (W := W)
    (by rw [payload_send]; unfold sendPay qG; rw [slotQ_set])
    (by
      rw [payload_recv]; unfold recvPay qG; rw [slotQ_set]
      exact Entails.of_eq (pointsTo_congr (landed_eq m c (tgt k c) (srcs k) (dsts k) (qq k) (src_tgt k c) f))))
    $$ [Hs Hd HtS HtR HO]
  · isplitr; · iapply (inv_send m K c k); iexact HR
    isplitr; · iapply (inv_recv m K (tgt k c) k); iexact HR
    isplitl [Hs]; · unfold sendPay qG; rw [slotQ_set]; iexact Hs
    isplitl [Hd]; · rw [slotQ_set]; iexact Hd
    isplitl [HO]; · iexact HO
    isplitl [HtS]; · iexact HtS
    isplitr; · iapply (reached_send m K c k); iexact HR
    isplitl [HtR]; · iexact HtR
    iapply (reached_recv m K (tgt k c) k); iexact HR
  iintro ⟨Hc, HO⟩
  iapply Hk
  unfold sent
  isplitl [Hc Hat]
  · isplitl [Hc]; · iexact Hc
    iexact Hat
  iexists W; iexact HO

/-- The wait for transfer `k` into the device: the quarter of the slot it filled. The semaphore is done with. -/
theorem wp_wtR {α : Type} {Q : α → sProp 𝕄} (k : Fin 12) (l : List (Fin 12)) (n : ℕ) (h1 : lvS (.dma (rS k)) ≤ n) (h2 : ∀ j ∈ l, n < lvS (.dma (rS j)))
    {sm : DmaSem sig} (hsm : sm = rS k) {vs vd : Memref sig .tc .vmem S2x512x128 .bf16} (hN : vd.view.dmaCredit = N)
    {hsrc : vs.view.WordExact} {hdst : vd.view.WordExact} {kk : PUnit → Prog (TpuEff nD τ sig (Elt F) Λ₀ .tc) α} :
    iprop(records m K ∗ levAts L lv ∗ rcv c k ∗ ow c l)
      ⊢ iprop(((recvPay m c k ∗ semVal (recvCell c k) 0 ∗ ow c l) -∗ WP c (kk ⟨⟩) Q)
          -∗ WP c (.op (.waitDma2 sm vs vd hsrc hdst) kk) Q) := by
  subst hsm
  unfold rcv ow
  iintro ⟨#HR, #Hlev, ⟨Hat, Hcr⟩, ⟨%W, HO⟩⟩ Hk
  iapply (Rounds.wp_wait_rest_token 𝒱₀ ER (ringRd m) (c : Thread nD τ) none (κ := K (c, rIx k))
      (wpE_waitDma2_eq 𝒱₀ (c : Thread nD τ) none Set.univ) (Set.mem_univ _) () (O := Ow c l) (W := W) (R := 0) (m := 0) (T := ∅)
      (by rw [Nat.zero_add, expect_recv, hN])) $$ [Hcr HO Hat]
  · isplitr; · iapply (inv_recv m K c k); iexact HR
    isplitl [Hcr]; · rw [hN]; iexact Hcr
    isplitl [HO]; · iexact HO
    isplitr; · iapply (mayWait_ow c (.dma (rS k)) l n h1 h2); iexact Hlev
    iexact Hat
  iintro ⟨HO, Hat, -, Hpay⟩
  ihave Hp := (Entails.of_eq (rest_recv m c k)) $$ Hpay
  imod (Rounds.cell_close ER (ringRd m) (Set.mem_univ (K (c, rIx k))) (fun h => h) (R := 0 + 1) (duties_later m (recvCell c k))) $$ [Hat] with Hz
  · isplitr; · iapply (inv_recv m K c k); iexact HR
    iexact Hat
  iapply Hk
  isplitl [Hp]; · iexact Hp
  isplitl [Hz]; · iexact Hz
  iexists _; iexact HO

/-- The wait for the source of transfer `k`, everything sent: the share of the source comes back. -/
theorem wp_wtS {α : Type} {Q : α → sProp 𝕄} (k : Fin 12)
    {sm : DmaSem sig} (hsm : sm = sS k) {vs vd : Memref sig .tc .vmem S2x512x128 .bf16} (hN : vd.view.dmaCredit = N)
    {hsrc : vs.view.WordExact} {hdst : vd.view.WordExact} {kk : PUnit → Prog (TpuEff nD τ sig (Elt F) Λ₀ .tc) α} :
    iprop(records m K ∗ sent c k ∗ ow c [])
      ⊢ iprop(((sendPay m c k ∗ semVal (sendCell c k) 0 ∗ ow c []) -∗ WP c (kk ⟨⟩) Q)
          -∗ WP c (.op (.waitDma2 sm vs vd hsrc hdst) kk) Q) := by
  subst hsm
  unfold sent ow Ow
  iintro ⟨#HR, ⟨Hcr, Hat⟩, ⟨%W, HO⟩⟩ Hk
  iapply (Rounds.wp_wait_rest_token 𝒱₀ ER (ringRd m) (c : Thread nD τ) none (κ := K (c, sIx k))
      (wpE_waitDma2_eq 𝒱₀ (c : Thread nD τ) none Set.univ) (Set.mem_univ _) () (O := 0) (W := W) (R := 0) (m := 0) (T := ∅)
      (by rw [Nat.zero_add, expect_send, hN])) $$ [Hcr HO Hat]
  · isplitr; · iapply (inv_send m K c k); iexact HR
    isplitl [Hcr]; · rw [hN]; iexact Hcr
    isplitl [HO]; · iexact HO
    isplitr; · rw [MayWait_zero]; iempintro
    iexact Hat
  iintro ⟨HO, Hat, -, Hpay⟩
  ihave Hp := (Entails.of_eq (rest_send m c k)) $$ Hpay
  imod (Rounds.cell_close ER (ringRd m) (Set.mem_univ (K (c, sIx k))) (fun h => h) (R := 0 + 1) (duties_later m (sendCell c k))) $$ [Hat] with Hz
  · isplitr; · iapply (inv_send m K c k); iexact HR
    iexact Hat
  iapply Hk
  isplitl [Hp]; · iexact Hp
  isplitl [Hz]; · iexact Hz
  iexists _; iexact HO

end Comm

end Cert.RingProof
-- ==== Proof.Shares.lean ====
/-
  The scratch taken apart and put together: blocks into quarters, quarters into slots, and the shares of each.
-/
module

public import proofs.«01_k».proof.Proof.Rules

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (c : Dev nD)

/-- A quarter of slot 0 at any contents is the eight blocks of its two heads. -/
theorem blocks_eq (q : Fin 4) (f : Buf (Elt F) ((c : Thread nD τ).loc cc0_scratch0)) :
    ((c : Thread nD τ).loc cc0_scratch0 ↦[qset 0 q]{fullShare} f : sProp 𝕄)
      = iprop(((c : Thread nD τ).loc cc0_scratch0 ↦[pset 0 0 (hd q 0)]{fullShare} f) ∗ ((c : Thread nD τ).loc cc0_scratch0 ↦[pset 0 1 (hd q 0)]{fullShare} f)
        ∗ ((c : Thread nD τ).loc cc0_scratch0 ↦[pset 0 0 (hd q 1)]{fullShare} f) ∗ ((c : Thread nD τ).loc cc0_scratch0 ↦[pset 0 1 (hd q 1)]{fullShare} f)
        ∗ ((c : Thread nD τ).loc cc0_scratch0 ↦[pset 1 0 (hd q 0)]{fullShare} f) ∗ ((c : Thread nD τ).loc cc0_scratch0 ↦[pset 1 1 (hd q 0)]{fullShare} f)
        ∗ ((c : Thread nD τ).loc cc0_scratch0 ↦[pset 1 0 (hd q 1)]{fullShare} f) ∗ ((c : Thread nD τ).loc cc0_scratch0 ↦[pset 1 1 (hd q 1)]{fullShare} f)) := by
  rw [qset_pieces, pointsTo_biUnion _ _ (pieces_disj q),
    bigSep_univ_eq_bigSepL [(0, 0, 0), (0, 0, 1), (1, 0, 0), (1, 0, 1), (0, 1, 0), (0, 1, 1), (1, 1, 0), (1, 1, 1)] (by decide) (by decide)]
  simp only [bigSepL_cons_cons, bigSepL_singleton]
  rfl

/-- A finished quarter of slot 0: the two shares its transfers take, and the one the output products read. -/
theorem quarter_done (q : Fin 4) :
    iprop(pG m c 0 0 (hd q 0) ∗ pG m c 0 1 (hd q 0) ∗ pG m c 0 0 (hd q 1) ∗ pG m c 0 1 (hd q 1)
        ∗ pG m c 1 0 (hd q 0) ∗ pG m c 1 1 (hd q 0) ∗ pG m c 1 0 (hd q 1) ∗ pG m c 1 1 (hd q 1))
      ⊢ iprop(qG m c 0 q fullShare.left ∗ qG m c 0 q fullShare.right.left ∗ qG m c 0 q fullShare.right.right) := by
  unfold pG qG
  rw [← blocks_eq]
  iintro H
  ihave H' := (pointsTo_share (PosShare.mem_left_op_right fullShare)).1 $$ H
  icases H' with ⟨H0, H1⟩
  ihave H'' := (pointsTo_share (PosShare.mem_left_op_right fullShare.right)).1 $$ H1
  icases H'' with ⟨H1, H2⟩
  isplitl [H0]; · iexact H0
  isplitl [H1]; · iexact H1
  iexact H2

theorem quarter_fresh (q : Fin 4) :
    iprop(∃ f, (c : Thread nD τ).loc cc0_scratch0 ↦[qset 0 q]{fullShare} f : sProp 𝕄)
      ⊢ iprop(pAny c 0 0 (hd q 0) ∗ pAny c 0 1 (hd q 0) ∗ pAny c 0 0 (hd q 1) ∗ pAny c 0 1 (hd q 1)
        ∗ pAny c 1 0 (hd q 0) ∗ pAny c 1 1 (hd q 0) ∗ pAny c 1 0 (hd q 1) ∗ pAny c 1 1 (hd q 1)) := by
  unfold pAny
  iintro ⟨%f, H⟩
  ihave H := (Entails.of_eq (blocks_eq c q f)) $$ H
  icases H with ⟨H0, H1, H2, H3, H4, H5, H6, H7⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

theorem union_disj (s : Fin 4) : Disjoint (qset s 0) (qset s 1 ∪ (qset s 2 ∪ qset s 3)) ∧ Disjoint (qset s 1) (qset s 2 ∪ qset s 3) ∧ Disjoint (qset s 2) (qset s 3) :=
  ⟨Finset.disjoint_union_right.mpr ⟨qset_disj (by decide), Finset.disjoint_union_right.mpr ⟨qset_disj (by decide), qset_disj (by decide)⟩⟩,
    Finset.disjoint_union_right.mpr ⟨qset_disj (by decide), qset_disj (by decide)⟩, qset_disj (by decide)⟩

theorem slots_disj : Disjoint (sset 0) (sset 1 ∪ (sset 2 ∪ sset 3)) ∧ Disjoint (sset 1) (sset 2 ∪ sset 3) ∧ Disjoint (sset 2) (sset 3) :=
  ⟨Finset.disjoint_union_right.mpr ⟨sset_disj (by decide), Finset.disjoint_union_right.mpr ⟨sset_disj (by decide), sset_disj (by decide)⟩⟩,
    Finset.disjoint_union_right.mpr ⟨sset_disj (by decide), sset_disj (by decide)⟩, sset_disj (by decide)⟩

/-- A slot is its four quarters; the scratch its four slots: at any contents and share. -/
theorem slot_split (s : Fin 4) (p : PosShare TreeShare) (f : Buf (Elt F) ((c : Thread nD τ).loc cc0_scratch0)) :
    ((c : Thread nD τ).loc cc0_scratch0 ↦[sset s]{p} f : sProp 𝕄)
      ⊢ iprop(((c : Thread nD τ).loc cc0_scratch0 ↦[qset s 0]{p} f) ∗ ((c : Thread nD τ).loc cc0_scratch0 ↦[qset s 1]{p} f)
        ∗ ((c : Thread nD τ).loc cc0_scratch0 ↦[qset s 2]{p} f) ∗ ((c : Thread nD τ).loc cc0_scratch0 ↦[qset s 3]{p} f)) := by
  rw [sset_eq]
  obtain ⟨d0, d1, d2⟩ := union_disj s
  exact (pointsTo_union d0).1.trans (sep_mono_right ((pointsTo_union d1).1.trans (sep_mono_right (pointsTo_union d2).1)))
theorem slot_join (s : Fin 4) (p : PosShare TreeShare) (f : Buf (Elt F) ((c : Thread nD τ).loc cc0_scratch0)) :
    iprop(((c : Thread nD τ).loc cc0_scratch0 ↦[qset s 0]{p} f) ∗ ((c : Thread nD τ).loc cc0_scratch0 ↦[qset s 1]{p} f)
        ∗ ((c : Thread nD τ).loc cc0_scratch0 ↦[qset s 2]{p} f) ∗ ((c : Thread nD τ).loc cc0_scratch0 ↦[qset s 3]{p} f))
      ⊢ ((c : Thread nD τ).loc cc0_scratch0 ↦[sset s]{p} f : sProp 𝕄) := by
  rw [sset_eq]
  obtain ⟨d0, d1, d2⟩ := union_disj s
  exact (sep_mono_right ((sep_mono_right (pointsTo_union d2).2).trans (pointsTo_union d1).2)).trans (pointsTo_union d0).2

theorem whole_split (f : Buf (Elt F) ((c : Thread nD τ).loc cc0_scratch0)) :
    ((c : Thread nD τ).loc cc0_scratch0 ↦{fullShare} f : sProp 𝕄)
      ⊢ iprop(((c : Thread nD τ).loc cc0_scratch0 ↦[sset 0]{fullShare} f) ∗ ((c : Thread nD τ).loc cc0_scratch0 ↦[sset 1]{fullShare} f)
        ∗ ((c : Thread nD τ).loc cc0_scratch0 ↦[sset 2]{fullShare} f) ∗ ((c : Thread nD τ).loc cc0_scratch0 ↦[sset 3]{fullShare} f)) := by
  obtain ⟨d0, d1, d2⟩ := slots_disj
  refine (Entails.of_eq (congrArg (fun I => ((c : Thread nD τ).loc cc0_scratch0 ↦[I]{fullShare} f : sProp 𝕄)) univ_eq)).trans ?_
  exact (pointsTo_union d0).1.trans (sep_mono_right ((pointsTo_union d1).1.trans (sep_mono_right (pointsTo_union d2).1)))
theorem whole_join (f : Buf (Elt F) ((c : Thread nD τ).loc cc0_scratch0)) :
    iprop(((c : Thread nD τ).loc cc0_scratch0 ↦[sset 0]{fullShare} f) ∗ ((c : Thread nD τ).loc cc0_scratch0 ↦[sset 1]{fullShare} f)
        ∗ ((c : Thread nD τ).loc cc0_scratch0 ↦[sset 2]{fullShare} f) ∗ ((c : Thread nD τ).loc cc0_scratch0 ↦[sset 3]{fullShare} f))
      ⊢ ((c : Thread nD τ).loc cc0_scratch0 ↦{fullShare} f : sProp 𝕄) := by
  obtain ⟨d0, d1, d2⟩ := slots_disj
  refine BIBase.Entails.trans ?_ (Entails.of_eq (congrArg (fun I => ((c : Thread nD τ).loc cc0_scratch0 ↦[I]{fullShare} f : sProp 𝕄)) univ_eq.symm))
  exact (sep_mono_right ((sep_mono_right (pointsTo_union d2).2).trans (pointsTo_union d1).2)).trans (pointsTo_union d0).2

/-- Four quarters at a share, one after the other. -/
theorem slot_done (s : Fin 4) (p : PosShare TreeShare) :
    qG m c s 0 p ⊢ iprop(qG m c s 1 p -∗ qG m c s 2 p -∗ qG m c s 3 p -∗ sP m c s p) := by
  unfold qG sP
  iintro H0 H1 H2 H3
  iapply (slot_join c s p (G m c))
  isplitl [H0]; · iexact H0
  isplitl [H1]; · iexact H1
  isplitl [H2]; · iexact H2
  iexact H3

/-- Everything back together. -/
theorem scratch_done :
    sP m c 0 fullShare.left ⊢ iprop(sP m c 0 fullShare.right.left -∗ sP m c 0 fullShare.right.right
      -∗ sP m c 1 fullShare.left -∗ sP m c 1 fullShare.right -∗ sP m c 2 fullShare.left -∗ sP m c 2 fullShare.right -∗ sP m c 3 fullShare
      -∗ ((c : Thread nD τ).loc cc0_scratch0 ↦{fullShare} G m c)) := by
  unfold sP
  iintro A B C D E G H I
  iapply (whole_join c (G m c))
  isplitl [A B C]
  · iapply (pointsTo_share (PosShare.mem_left_op_right fullShare)).2
    isplitl [A]; · iexact A
    iapply (pointsTo_share (PosShare.mem_left_op_right fullShare.right)).2
    isplitl [B]; · iexact B
    iexact C
  isplitl [D E]
  · iapply (pointsTo_share (PosShare.mem_left_op_right fullShare)).2
    isplitl [D]; · iexact D
    iexact E
  isplitl [G H]
  · iapply (pointsTo_share (PosShare.mem_left_op_right fullShare)).2
    isplitl [G]; · iexact G
    iexact H
  iexact I

/-- The scratch as the body finds it: the blocks to store, the places to give away. -/
theorem scratch_fresh (f : Buf (Elt F) ((c : Thread nD τ).loc cc0_scratch0)) :
    ((c : Thread nD τ).loc cc0_scratch0 ↦{fullShare} f : sProp 𝕄)
      ⊢ iprop((∃ f, (c : Thread nD τ).loc cc0_scratch0 ↦[qset 0 0]{fullShare} f) ∗ (∃ f, (c : Thread nD τ).loc cc0_scratch0 ↦[qset 0 1]{fullShare} f)
        ∗ (∃ f, (c : Thread nD τ).loc cc0_scratch0 ↦[qset 0 2]{fullShare} f) ∗ (∃ f, (c : Thread nD τ).loc cc0_scratch0 ↦[qset 0 3]{fullShare} f)
        ∗ barPay true (prv c) ∗ barPay false (nxt c)) := by
  unfold barPay
  rw [if_pos rfl, if_neg (by decide), nxt_prv, prv_nxt]
  unfold landing
  iintro H
  ihave H := (whole_split c f) $$ H
  icases H with ⟨A, B, C, D⟩
  ihave A := (slot_split c 0 fullShare f) $$ A
  ihave B := (slot_split c 1 fullShare f) $$ B
  ihave C := (slot_split c 2 fullShare f) $$ C
  ihave D := (slot_split c 3 fullShare f) $$ D
  icases A with ⟨A0, A1, A2, A3⟩
  icases B with ⟨B0, B1, B2, B3⟩
  icases C with ⟨C0, C1, C2, C3⟩
  icases D with ⟨D0, D1, D2, D3⟩
  isplitl [A0]; · iexists f; iexact A0
  isplitl [A1]; · iexists f; iexact A1
  isplitl [A2]; · iexists f; iexact A2
  isplitl [A3]; · iexists f; iexact A3
  isplitl [B0 B1 B2 B3 D0 D2]
  · isplitl [B0]; · iexists f; iexact B0
    isplitl [B1]; · iexists f; iexact B1
    isplitl [B2]; · iexists f; iexact B2
    isplitl [B3]; · iexists f; iexact B3
    isplitl [D0]; · iexists f; iexact D0
    iexists f; iexact D2
  isplitl [C0]; · iexists f; iexact C0
  isplitl [C1]; · iexists f; iexact C1
  isplitl [C2]; · iexists f; iexact C2
  isplitl [C3]; · iexists f; iexact C3
  isplitl [D1]; · iexists f; iexact D1
  iexists f; iexact D3

/-- The wait for transfer `k` into slot 1 or 2, the quarter at two shares: one to forward, one to read. -/
theorem wp_wtF {α : Type} {Q : α → sProp 𝕄} (K : Dev nD × Fin 25 → ℕ) (k : Fin 12) (s q : Fin 4) (hs : dsts k = s) (hq : qq k = q)
    (l : List (Fin 12)) (n : ℕ) (h1 : lvS (.dma (rS k)) ≤ n) (h2 : ∀ j ∈ l, n < lvS (.dma (rS j)))
    {sm : DmaSem sig} (hsm : sm = rS k) {vs vd : Memref sig .tc .vmem S2x512x128 .bf16} (hN : vd.view.dmaCredit = N)
    {hsrc : vs.view.WordExact} {hdst : vd.view.WordExact} {kk : PUnit → Prog (TpuEff nD τ sig (Elt F) Λ₀ .tc) α} :
    iprop(records m K ∗ levAts L lv ∗ rcv c k ∗ ow c l)
      ⊢ iprop(((qG m c s q fullShare.left ∗ qG m c s q fullShare.right ∗ semVal (recvCell c k) 0 ∗ ow c l) -∗ WP c (kk ⟨⟩) Q)
          -∗ WP c (.op (.waitDma2 sm vs vd hsrc hdst) kk) Q) := by
  subst hs hq
  iintro H Hk
  iapply (wp_wtR m K c k l n h1 h2 hsm hN) $$ H
  iintro ⟨Hp, Hz, HO⟩
  iapply Hk
  unfold recvPay qG
  ihave H' := (pointsTo_share (PosShare.mem_left_op_right fullShare)).1 $$ Hp
  icases H' with ⟨H0, H1⟩
  isplitl [H0]; · iexact H0
  isplitl [H1]; · iexact H1
  isplitl [Hz]; · iexact Hz
  iexact HO

end Cert.RingProof
-- ==== Proof.Out.lean ====
/-
  The neighbours' names as the body computes them, and the values of the result in its three rounds.
-/
module

public import proofs.«01_k».proof.Proof.Shares

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 25 → ℕ) (c : Dev nD)

theorem dev1_eq : (⟨k0_dev1 c, k0_dev1_lt c⟩ : Dev nD) = prv c := Fin.ext (k0_dev1_eq c)
theorem dev2_eq : (⟨k0_dev2 c, k0_dev2_lt c⟩ : Dev nD) = nxt c := Fin.ext (k0_dev2_eq c)
theorem dev3_eq : (⟨k0_dev3 c, k0_dev3_lt c⟩ : Dev nD) = nxt c := Fin.ext (k0_dev3_eq c)
theorem dev4_eq : (⟨k0_dev4 c, k0_dev4_lt c⟩ : Dev nD) = prv c := Fin.ext (k0_dev4_eq c)
theorem dev5_eq : (⟨k0_dev5 c, k0_dev5_lt c⟩ : Dev nD) = nxt c := Fin.ext (k0_dev5_eq c)
theorem dev6_eq : (⟨k0_dev6 c, k0_dev6_lt c⟩ : Dev nD) = prv c := Fin.ext (k0_dev6_eq c)
theorem dev7_eq : (⟨k0_dev7 c, k0_dev7_lt c⟩ : Dev nD) = nxt c := Fin.ext (k0_dev7_eq c)
theorem dev8_eq : (⟨k0_dev8 c, k0_dev8_lt c⟩ : Dev nD) = prv c := Fin.ext (k0_dev8_eq c)
theorem dev9_eq : (⟨k0_dev9 c, k0_dev9_lt c⟩ : Dev nD) = nxt c := Fin.ext (k0_dev9_eq c)
theorem dev10_eq : (⟨k0_dev10 c, k0_dev10_lt c⟩ : Dev nD) = prv c := Fin.ext (k0_dev10_eq c)
theorem dev11_eq : (⟨k0_dev11 c, k0_dev11_lt c⟩ : Dev nD) = nxt c := Fin.ext (k0_dev11_eq c)
theorem dev12_eq : (⟨k0_dev12 c, k0_dev12_lt c⟩ : Dev nD) = prv c := Fin.ext (k0_dev12_eq c)
theorem dev13_eq : (⟨k0_dev13 c, k0_dev13_lt c⟩ : Dev nD) = nxt c := Fin.ext (k0_dev13_eq c)
theorem dev14_eq : (⟨k0_dev14 c, k0_dev14_lt c⟩ : Dev nD) = prv c := Fin.ext (k0_dev14_eq c)

/-! The share each transfer holds of its source; what each of the last four leaves. -/

theorem sendPay_0 : sendPay m c 0 = qG m c 0 0 fullShare.left := rfl
theorem sendPay_1 : sendPay m c 1 = qG m c 0 1 fullShare.left := rfl
theorem sendPay_2 : sendPay m c 2 = qG m c 0 2 fullShare.left := rfl
theorem sendPay_3 : sendPay m c 3 = qG m c 0 3 fullShare.left := rfl
theorem sendPay_4 : sendPay m c 4 = qG m c 0 0 fullShare.right.left := rfl
theorem sendPay_5 : sendPay m c 5 = qG m c 0 1 fullShare.right.left := rfl
theorem sendPay_6 : sendPay m c 6 = qG m c 0 2 fullShare.right.left := rfl
theorem sendPay_7 : sendPay m c 7 = qG m c 0 3 fullShare.right.left := rfl
theorem sendPay_8 : sendPay m c 8 = qG m c 1 0 fullShare.left := rfl
theorem sendPay_9 : sendPay m c 9 = qG m c 1 2 fullShare.left := rfl
theorem sendPay_10 : sendPay m c 10 = qG m c 2 1 fullShare.left := rfl
theorem sendPay_11 : sendPay m c 11 = qG m c 2 3 fullShare.left := rfl
theorem recvPay_8 : recvPay m c 8 = qG m c 3 0 fullShare := rfl
theorem recvPay_9 : recvPay m c 9 = qG m c 3 2 fullShare := rfl
theorem recvPay_10 : recvPay m c 10 = qG m c 3 1 fullShare := rfl
theorem recvPay_11 : recvPay m c 11 = qG m c 3 3 fullShare := rfl

/-- A finished quarter of slot 0, as the transfers of it take it. -/
theorem quarter_sent (q : Fin 4) (h0 h1 : Fin 8) (e0 : hd q 0 = h0) (e1 : hd q 1 = h1) (k k' : Fin 12)
    (hk : sendPay m c k = qG m c 0 q fullShare.left) (hk' : sendPay m c k' = qG m c 0 q fullShare.right.left) :
    iprop(pG m c 0 0 h0 ∗ pG m c 0 1 h0 ∗ pG m c 0 0 h1 ∗ pG m c 0 1 h1 ∗ pG m c 1 0 h0 ∗ pG m c 1 1 h0 ∗ pG m c 1 0 h1 ∗ pG m c 1 1 h1)
      ⊢ iprop(sendPay m c k ∗ sendPay m c k' ∗ qG m c 0 q fullShare.right.right) := by
  subst e0 e1
  rw [hk, hk']
  exact quarter_done m c q

/-- The result's batch `b` after each of the three rounds: own heads; both neighbours' added; the opposite device's. -/
def out1 (b : Fin 2) : FVec F S1x512x768 .f32 := k0_pay124 (woL m c (k0_off2 c) (k0_off2_inb c)) (sL m c 0 b)
def out2 (b : Fin 2) : FVec F S1x512x768 .f32 :=
  k0_pay128 (k0_pay126 (woL m c (k0_off3 c) (k0_off3_inb c))) (woL m c (k0_off4 c 1#32) (k0_off4_inb c 0)) (out1 m c b) (sL m c 1 b) (sL m c 2 b)
def out3 (b : Fin 2) : FVec F S1x512x768 .f32 := k0_pay132 (woL m c (k0_off4 c 2#32) (k0_off4_inb c 1)) (out2 m c b) (sL m c 3 b)

end Cert.RingProof
-- ==== Proof.Start.lean ====
/-
  The body's first step: the signals to both neighbours and the wait for theirs.
-/
module

public import proofs.«01_k».proof.Proof.Out

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 25 → ℕ) (c : Dev nD)

/-- The words the body computes of the device's number: its own, its neighbours', the opposite device's. -/
abbrev w2 : BitVec 32 := Scalar.remsi (Scalar.divsi (Dev.word c) 1#32) 4#32
abbrev w5 : BitVec 32 := Scalar.remsi (Scalar.addi (Scalar.subi (w2 c) 1#32) 4#32) 4#32
abbrev w7 : BitVec 32 := Scalar.remsi (Scalar.addi (w2 c) 1#32) 4#32
abbrev w9 : BitVec 32 := Scalar.remsi (Scalar.addi (w2 c) 2#32) 4#32

theorem barPay_true : (barPay true c : sProp 𝕄) = iprop(landing (tgt 0 c) 0 ∗ landing (tgt 1 c) 1 ∗ landing (tgt 2 c) 2 ∗ landing (tgt 3 c) 3
    ∗ landing (tgt 8 c) 8 ∗ landing (tgt 9 c) 9) := rfl
theorem barPay_false : (barPay false c : sProp 𝕄) = iprop(landing (tgt 4 c) 4 ∗ landing (tgt 5 c) 5 ∗ landing (tgt 6 c) 6 ∗ landing (tgt 7 c) 7
    ∗ landing (tgt 10 c) 10 ∗ landing (tgt 11 c) 11) := rfl

set_option maxRecDepth 65536 in
theorem part1_wp {α : Type} {Q : α → sProp 𝕄} (W : Waits sig Unit) {kk : _ → Prog (TpuEff nD τ sig (Elt F) Λ₀ .tc) α} :
    (records m K : sProp 𝕄) ⊢ iprop(levAts L lv -∗ owes (c : Thread nD τ) (O₀ c) W -∗ atPos ER (barCell c) 0 ∅ 0
      -∗ dutyTok ER (barCell (prv c)) 0 true -∗ dutyTok ER (barCell (nxt c)) 0 false -∗ cred (tallyAt (barCell c) () 2)
      -∗ barPay true (prv c) -∗ barPay false (nxt c)
      -∗ (barPay false c -∗ barPay true c -∗ semVal (barCell c) 0 -∗ ow c order
          -∗ WP c (kk ⟨c, w2 c, w5 c, w7 c, w9 c, (iota .tc S256x256 32 [0] iota_S256x256_d0_w32), (iota .tc S256x256 32 [1] iota_S256x256_d1_w32), k0_pay1, k0_pay2, k0_pay3⟩) Q)
      -∗ WP c (k0_part1 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 >>= kk) Q) := by
  rw [k0_part1_eq_skeleton]; unfold k0_part1_skel
  simp only [semSignalWord, semWaitWord, Prog.lift, Prog.bind_op, Prog.bind_ret, Prog.pure_eq_ret, wp_deviceId]
  iintro #HRec #HLev HO HatB HtP HtN HcB HpP HpN Hk
  simp only [dev1_eq c, dev2_eq c]
  unfold O₀
  iapply (Rounds.wp_signal 𝒱₀ ER (ringRd m) (c : Thread nD τ) none (dst := (prv c : Thread nD τ)) (κ := K (prv c, 0))
      (d := true) (by rw [duties_bar]; exact Finset.mem_univ _) ((amount_bar m (prv c) true).trans (by decide)) () (O₁ c) rfl)
    $$ [HO HtP HpP]
  · isplitr; · iapply (inv_bar m K (prv c)); iexact HRec
    isplitl [HO]; · iexact HO
    isplitl [HtP]; · iexact HtP
    isplitl [HpP]; · rw [payload_bar]; iexact HpP
    iapply (reached_bar m K (prv c)); iexact HRec
  iintro HO
  unfold O₁
  iapply (Rounds.wp_signal 𝒱₀ ER (ringRd m) (c : Thread nD τ) none (dst := (nxt c : Thread nD τ)) (κ := K (nxt c, 0))
      (d := false) (by rw [duties_bar]; exact Finset.mem_univ _) ((amount_bar m (nxt c) false).trans (by decide)) () (Ow c order) rfl)
    $$ [HO HtN HpN]
  · isplitr; · iapply (inv_bar m K (nxt c)); iexact HRec
    isplitl [HO]; · iexact HO
    isplitl [HtN]; · iexact HtN
    isplitl [HpN]; · rw [payload_bar]; iexact HpN
    iapply (reached_bar m K (nxt c)); iexact HRec
  iintro HO
  iapply (Rounds.wp_wait_rest_token 𝒱₀ ER (ringRd m) (c : Thread nD τ) none (κ := K (c, 0))
      (wpE_semWait_eq 𝒱₀ (c : Thread nD τ) none Set.univ) (Set.mem_univ _) () (O := Ow c order) (W := W) (R := 0) (m := 0) (T := ∅)
      (by rw [expect_bar]; decide)) $$ [HcB HO HatB]
  · isplitr; · iapply (inv_bar m K c); iexact HRec
    isplitl [HcB]; · iexact HcB
    isplitl [HO]; · iexact HO
    isplitr; · iapply (mayWait_ow c (.reg barS) order 1 le_rfl (fun j _ => lv_recv_pos j)); iexact HLev
    iexact HatB
  iintro ⟨HO, HatB, -, Hpay⟩
  ihave Hp := (Entails.of_eq (rest_bar m c)) $$ Hpay
  icases Hp with ⟨Hf, Ht⟩
  imod (Rounds.cell_close ER (ringRd m) (Set.mem_univ (K (c, 0))) (fun h => h) (R := 0 + 1) (duties_later m (barCell c))) $$ [HatB] with HzB
  · isplitr; · iapply (inv_bar m K c); iexact HRec
    iexact HatB
  iapply Hk $$ Hf Ht HzB [HO]
  unfold ow; iexists _; iexact HO

end Cert.RingProof
-- ==== Proof.PartsA.lean ====
/-
  The body's steps, in order: heads 0 and 1.
-/
module

public import proofs.«01_k».proof.Proof.Out

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 25 → ℕ) (c : Dev nD)

set_option maxRecDepth 65536 in
theorem part2_wp {α : Type} {Q : α → sProp 𝕄} {kk : _ → Prog (TpuEff nD τ sig (Elt F) Λ₀ .tc) α} :
    iprop(WP c (kk ⟨maskT, k0_pay5, ((iota .tc S256x512 32 [1] iota_S256x512_d1_w32)), 64#32, k0_pay6, k0_pay7, ((Scalar.cmpi .sgt 64#32 0#32))⟩) Q) ⊢ WP c (k0_part2 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 ((iota .tc S256x256 32 [0] iota_S256x256_d0_w32)) ((iota .tc S256x256 32 [1] iota_S256x256_d1_w32)) k0_pay1 k0_pay2 k0_pay3 >>= kk) Q := by
  rw [k0_part2_eq_skeleton]; unfold k0_part2_skel
  simp only [Prog.lift, Prog.bind_op, Prog.bind_ret, Prog.pure_eq_ret]
  exact BI.Entails.refl _

set_option maxRecDepth 65536 in
theorem part3_wp {α : Type} {Q : α → sProp 𝕄} (v2 : BitVec 32) {kk : _ → Prog (TpuEff nD τ sig (Elt F) Λ₀ .tc) α} :
    (wqP m c : sProp 𝕄) ⊢ iprop((wqP m c -∗ WP c (kk ⟨maskB, (wqS m c)⟩) Q) -∗ WP c (k0_part3 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 c v2 k0_pay5 (((iota .tc S256x512 32 [1] iota_S256x512_d1_w32))) 64#32 k0_pay6 k0_pay7 (((Scalar.cmpi .sgt 64#32 0#32))) >>= kk) Q) := by
  rw [k0_part3_eq_skeleton]; unfold k0_part3_skel
  simp only [Prog.lift, Prog.bind_op, Prog.bind_ret, Prog.pure_eq_ret]
  iintro HWQ Hk
  iapply (wp_ldWq m c) $$ HWQ; iintro HWQ
  iapply Hk $$ HWQ

set_option maxRecDepth 65536 in
theorem part4_wp {α : Type} {Q : α → sProp 𝕄} {kk : _ → Prog (TpuEff nD τ sig (Elt F) Λ₀ .tc) α} :
    (xP m c : sProp 𝕄) ⊢ iprop(kP m c -∗ vP m c -∗ (xP m c -∗ kP m c -∗ vP m c -∗ WP c (kk ⟨(qB m c 0), (qB m c 1), (k0_pay14 (vL m c 0 0)), (k0_pay15 maskT ((wqS m c)) (xL m c 0) (kL m c 0 0) (vL m c 0 0)), (k0_pay17 maskB ((wqS m c)) (xL m c 0) (kL m c 0 0)), (k0_pay18 maskB ((wqS m c)) (xL m c 0) (kL m c 0 0))⟩) Q) -∗ WP c (k0_part4 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 maskT maskB ((wqS m c)) >>= kk) Q) := by
  rw [k0_part4_eq_skeleton]; unfold k0_part4_skel
  simp only [Prog.lift, Prog.bind_op, Prog.bind_ret, Prog.pure_eq_ret]
  iintro HX HK HV Hk
  iapply (wp_ldX m c 0) $$ HX; iintro HX
  iapply (wp_ldX m c 1) $$ HX; iintro HX
  iapply (wp_ldK m c 0 0) $$ HK; iintro HK
  iapply (wp_ldV m c 0 0) $$ HV; iintro HV
  iapply Hk $$ HX HK HV

set_option maxRecDepth 65536 in
theorem part5_wp {α : Type} {Q : α → sProp 𝕄} {kk : _ → Prog (TpuEff nD τ sig (Elt F) Λ₀ .tc) α} :
    (pAny c 0 0 0 : sProp 𝕄) ⊢ iprop(pAny c 0 1 0 -∗ kP m c -∗ vP m c -∗ (pG m c 0 0 0 -∗ pG m c 0 1 0 -∗ kP m c -∗ vP m c -∗ WP c (kk ⟨(k0_pay23 (vL m c 0 1)), (k0_pay24 maskT ((qB m c 0)) (kL m c 0 1) (vL m c 0 1)), (k0_pay25 ((qB m c 0)) (kL m c 0 1)), ((Named.named κ "masked" 0xCE6E6B28#32))⟩) Q) -∗ WP c (k0_part5 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 maskT ((qB m c 0)) ((k0_pay14 (vL m c 0 0))) ((k0_pay15 maskT ((wqS m c)) (xL m c 0) (kL m c 0 0) (vL m c 0 0))) ((k0_pay17 maskB ((wqS m c)) (xL m c 0) (kL m c 0 0))) ((k0_pay18 maskB ((wqS m c)) (xL m c 0) (kL m c 0 0))) >>= kk) Q) := by
  rw [k0_part5_eq_skeleton]; unfold k0_part5_skel
  simp only [Prog.lift, Prog.bind_op, Prog.bind_ret, Prog.pure_eq_ret]
  iintro HP000 HP010 HK HV Hk
  iapply (wp_piece m c 0 0 0 (w := (k0_pay19 ((k0_pay15 maskT ((wqS m c)) (xL m c 0) (kL m c 0 0) (vL m c 0 0))))) (blk_top m c 0 0).symm) $$ HP000; iintro HP000
  iapply (wp_piece m c 0 1 0 (w := (k0_pay20 ((k0_pay14 (vL m c 0 0))) ((k0_pay17 maskB ((wqS m c)) (xL m c 0) (kL m c 0 0))) ((k0_pay18 maskB ((wqS m c)) (xL m c 0) (kL m c 0 0))))) (blk_bot m c 0 0).symm) $$ HP010; iintro HP010
  iapply (wp_ldK m c 0 1) $$ HK; iintro HK
  iapply (wp_ldV m c 0 1) $$ HV; iintro HV
  iapply Hk $$ HP000 HP010 HK HV

set_option maxRecDepth 65536 in
theorem part6_wp {α : Type} {Q : α → sProp 𝕄} {kk : _ → Prog (TpuEff nD τ sig (Elt F) Λ₀ .tc) α} :
    (pAny c 0 0 1 : sProp 𝕄) ⊢ iprop(pAny c 0 1 1 -∗ kP m c -∗ vP m c -∗ (pG m c 0 0 1 -∗ pG m c 0 1 1 -∗ kP m c -∗ vP m c -∗ WP c (kk ⟨(k0_pay28 ((qB m c 1))), (k0_pay29 (kL m c 1 0)), (k0_pay30 (vL m c 1 0)), (k0_pay31 maskT ((qB m c 1)) (kL m c 1 0)), (k0_pay32 maskT ((qB m c 1)) (kL m c 1 0))⟩) Q) -∗ WP c (k0_part6 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 maskT maskB ((qB m c 1)) ((k0_pay23 (vL m c 0 1))) ((k0_pay24 maskT ((qB m c 0)) (kL m c 0 1) (vL m c 0 1))) ((k0_pay25 ((qB m c 0)) (kL m c 0 1))) (((Named.named κ "masked" 0xCE6E6B28#32))) >>= kk) Q) := by
  rw [k0_part6_eq_skeleton]; unfold k0_part6_skel
  simp only [Prog.lift, Prog.bind_op, Prog.bind_ret, Prog.pure_eq_ret]
  iintro HP001 HP011 HK HV Hk
  iapply (wp_piece m c 0 0 1 (w := (k0_pay26 ((k0_pay24 maskT ((qB m c 0)) (kL m c 0 1) (vL m c 0 1))))) (blk_top m c 0 1).symm) $$ HP001; iintro HP001
  iapply (wp_piece m c 0 1 1 (w := (k0_pay27 maskB ((k0_pay23 (vL m c 0 1))) ((k0_pay25 ((qB m c 0)) (kL m c 0 1))) (((Named.named κ "masked" 0xCE6E6B28#32))))) (blk_bot m c 0 1).symm) $$ HP011; iintro HP011
  iapply (wp_ldK m c 1 0) $$ HK; iintro HK
  iapply (wp_ldV m c 1 0) $$ HV; iintro HV
  iapply Hk $$ HP001 HP011 HK HV

set_option maxRecDepth 65536 in
theorem part7_wp {α : Type} {Q : α → sProp 𝕄} {kk : _ → Prog (TpuEff nD τ sig (Elt F) Λ₀ .tc) α} :
    (pAny c 1 0 0 : sProp 𝕄) ⊢ iprop(pAny c 1 1 0 -∗ kP m c -∗ vP m c -∗ (pG m c 1 0 0 -∗ pG m c 1 1 0 -∗ kP m c -∗ vP m c -∗ WP c (kk ⟨(k0_pay35 ((qB m c 1))), (k0_pay36 (kL m c 1 1)), (k0_pay37 (vL m c 1 1)), (k0_pay38 ((qB m c 1)) (kL m c 1 1))⟩) Q) -∗ WP c (k0_part7 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 maskB ((qB m c 1)) ((k0_pay28 ((qB m c 1)))) ((k0_pay29 (kL m c 1 0))) ((k0_pay30 (vL m c 1 0))) ((k0_pay31 maskT ((qB m c 1)) (kL m c 1 0))) ((k0_pay32 maskT ((qB m c 1)) (kL m c 1 0))) >>= kk) Q) := by
  rw [k0_part7_eq_skeleton]; unfold k0_part7_skel
  simp only [Prog.lift, Prog.bind_op, Prog.bind_ret, Prog.pure_eq_ret]
  iintro HP100 HP110 HK HV Hk
  iapply (wp_piece m c 1 0 0 (w := (k0_pay33 ((k0_pay30 (vL m c 1 0))) ((k0_pay31 maskT ((qB m c 1)) (kL m c 1 0))) ((k0_pay32 maskT ((qB m c 1)) (kL m c 1 0))))) (blk_top m c 1 0).symm) $$ HP100; iintro HP100
  iapply (wp_piece m c 1 1 0 (w := (k0_pay34 maskB ((k0_pay28 ((qB m c 1)))) ((k0_pay29 (kL m c 1 0))) ((k0_pay30 (vL m c 1 0))))) (blk_bot m c 1 0).symm) $$ HP110; iintro HP110
  iapply (wp_ldK m c 1 1) $$ HK; iintro HK
  iapply (wp_ldV m c 1 1) $$ HV; iintro HV
  iapply Hk $$ HP100 HP110 HK HV

set_option maxRecDepth 65536 in
theorem part8_wp {α : Type} {Q : α → sProp 𝕄} (v7 : BitVec 32) {kk : _ → Prog (TpuEff nD τ sig (Elt F) Λ₀ .tc) α} :
    (pAny c 1 0 1 : sProp 𝕄) ⊢ iprop(pAny c 1 1 1 -∗ (pG m c 1 0 1 -∗ pG m c 1 1 1 -∗ WP c (kk ⟨⟩) Q) -∗ WP c (k0_part8 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 v7 maskT maskB ((k0_pay35 ((qB m c 1)))) ((k0_pay36 (kL m c 1 1))) ((k0_pay37 (vL m c 1 1))) ((k0_pay38 ((qB m c 1)) (kL m c 1 1))) >>= kk) Q) := by
  rw [k0_part8_eq_skeleton]; unfold k0_part8_skel
  simp only [Prog.lift, Prog.bind_op, Prog.bind_ret, Prog.pure_eq_ret]
  iintro HP101 HP111 Hk
  iapply (wp_piece m c 1 0 1 (w := (k0_pay39 maskT ((k0_pay37 (vL m c 1 1))) ((k0_pay38 ((qB m c 1)) (kL m c 1 1))))) (blk_top m c 1 1).symm) $$ HP101; iintro HP101
  iapply (wp_piece m c 1 1 1 (w := (k0_pay40 maskB ((k0_pay35 ((qB m c 1)))) ((k0_pay36 (kL m c 1 1))) ((k0_pay37 (vL m c 1 1))))) (blk_bot m c 1 1).symm) $$ HP111; iintro HP111
  iapply Hk $$ HP101 HP111

end Cert.RingProof
-- ==== Proof.PartsB.lean ====
/-
  The body's steps, in order: heads 2 and 3.
-/
module

public import proofs.«01_k».proof.Proof.Out

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 25 → ℕ) (c : Dev nD)

set_option maxRecDepth 65536 in
theorem part9_wp {α : Type} {Q : α → sProp 𝕄} (v5 : BitVec 32) {kk : _ → Prog (TpuEff nD τ sig (Elt F) Λ₀ .tc) α} :
    (records m K : sProp 𝕄) ⊢ iprop(sendPay m c 0 -∗ landing (tgt 0 c) 0 -∗ xfer c 0 -∗ ow c [0, 4, 1, 5, 2, 6, 8, 10, 3, 7, 9, 11] -∗ sendPay m c 4 -∗ landing (tgt 4 c) 4 -∗ xfer c 4 -∗ kP m c -∗ vP m c -∗ (sent c 0 -∗ ow c [1, 5, 2, 6, 8, 10, 3, 7, 9, 11] -∗ sent c 4 -∗ kP m c -∗ vP m c -∗ WP c (kk ⟨(k0_pay41 ((qB m c 0))), (k0_pay42 (kL m c 0 2)), (k0_pay43 (vL m c 0 2)), (k0_pay44 maskT ((qB m c 0)) (kL m c 0 2))⟩) Q) -∗ WP c (k0_part9 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 c v5 maskT ((qB m c 0)) >>= kk) Q) := by
  rw [k0_part9_eq_skeleton]; unfold k0_part9_skel
  simp only [Prog.lift, Prog.bind_op, Prog.bind_ret, Prog.pure_eq_ret]
  iintro #HRec HS0 HL0 HT0 HOw HS4 HL4 HT4 HK HV Hk
  iapply (wp_snd m K c 0 [4, 1, 5, 2, 6, 8, 10, 3, 7, 9, 11] _ (dev3_eq c) rfl rfl rfl rfl) $$ [HS0 HL0 HT0 HOw]
  · isplitr; · iexact HRec
    isplitl [HS0]; · iexact HS0
    isplitl [HL0]; · iexact HL0
    isplitl [HT0]; · iexact HT0
    iexact HOw
  iintro ⟨HT0, HOw⟩
  iapply (wp_snd m K c 4 [1, 5, 2, 6, 8, 10, 3, 7, 9, 11] _ (dev4_eq c) rfl rfl rfl rfl) $$ [HS4 HL4 HT4 HOw]
  · isplitr; · iexact HRec
    isplitl [HS4]; · iexact HS4
    isplitl [HL4]; · iexact HL4
    isplitl [HT4]; · iexact HT4
    iexact HOw
  iintro ⟨HT4, HOw⟩
  iapply (wp_ldK m c 0 2) $$ HK; iintro HK
  iapply (wp_ldV m c 0 2) $$ HV; iintro HV
  iapply Hk $$ HT0 HOw HT4 HK HV

set_option maxRecDepth 65536 in
theorem part10_wp {α : Type} {Q : α → sProp 𝕄} {kk : _ → Prog (TpuEff nD τ sig (Elt F) Λ₀ .tc) α} :
    (pAny c 0 0 2 : sProp 𝕄) ⊢ iprop(pAny c 0 1 2 -∗ kP m c -∗ (pG m c 0 0 2 -∗ pG m c 0 1 2 -∗ kP m c -∗ WP c (kk ⟨(k0_pay47 ((qB m c 0))), (k0_pay48 (kL m c 0 3))⟩) Q) -∗ WP c (k0_part10 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 maskB ((qB m c 0)) ((k0_pay41 ((qB m c 0)))) ((k0_pay42 (kL m c 0 2))) ((k0_pay43 (vL m c 0 2))) ((k0_pay44 maskT ((qB m c 0)) (kL m c 0 2))) >>= kk) Q) := by
  rw [k0_part10_eq_skeleton]; unfold k0_part10_skel
  simp only [Prog.lift, Prog.bind_op, Prog.bind_ret, Prog.pure_eq_ret]
  iintro HP002 HP012 HK Hk
  iapply (wp_piece m c 0 0 2 (w := (k0_pay45 ((k0_pay43 (vL m c 0 2))) ((k0_pay44 maskT ((qB m c 0)) (kL m c 0 2))))) (blk_top m c 0 2).symm) $$ HP002; iintro HP002
  iapply (wp_piece m c 0 1 2 (w := (k0_pay46 maskB ((k0_pay41 ((qB m c 0)))) ((k0_pay42 (kL m c 0 2))) ((k0_pay43 (vL m c 0 2))))) (blk_bot m c 0 2).symm) $$ HP012; iintro HP012
  iapply (wp_ldK m c 0 3) $$ HK; iintro HK
  iapply Hk $$ HP002 HP012 HK

set_option maxRecDepth 65536 in
theorem part11_wp {α : Type} {Q : α → sProp 𝕄} {kk : _ → Prog (TpuEff nD τ sig (Elt F) Λ₀ .tc) α} :
    (vP m c : sProp 𝕄) ⊢ iprop(pAny c 0 0 3 -∗ pAny c 0 1 3 -∗ (vP m c -∗ pG m c 0 0 3 -∗ pG m c 0 1 3 -∗ WP c (kk (k0_pay52 ((qB m c 1)))) Q) -∗ WP c (k0_part11 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 maskT maskB ((qB m c 1)) ((k0_pay47 ((qB m c 0)))) ((k0_pay48 (kL m c 0 3))) >>= kk) Q) := by
  rw [k0_part11_eq_skeleton]; unfold k0_part11_skel
  simp only [Prog.lift, Prog.bind_op, Prog.bind_ret, Prog.pure_eq_ret]
  iintro HV HP003 HP013 Hk
  iapply (wp_ldV m c 0 3) $$ HV; iintro HV
  iapply (wp_piece m c 0 0 3 (w := (k0_pay50 maskT ((k0_pay47 ((qB m c 0)))) ((k0_pay48 (kL m c 0 3))) (vL m c 0 3))) (blk_top m c 0 3).symm) $$ HP003; iintro HP003
  iapply (wp_piece m c 0 1 3 (w := (k0_pay51 maskB ((k0_pay47 ((qB m c 0)))) ((k0_pay48 (kL m c 0 3))) (vL m c 0 3))) (blk_bot m c 0 3).symm) $$ HP013; iintro HP013
  iapply Hk $$ HV HP003 HP013

set_option maxRecDepth 65536 in
theorem part12_wp {α : Type} {Q : α → sProp 𝕄} {kk : _ → Prog (TpuEff nD τ sig (Elt F) Λ₀ .tc) α} :
    (kP m c : sProp 𝕄) ⊢ iprop(vP m c -∗ pAny c 1 0 2 -∗ (kP m c -∗ vP m c -∗ pG m c 1 0 2 -∗ WP c (kk (k0_pay56 maskB ((k0_pay52 ((qB m c 1)))) (kL m c 1 2) (vL m c 1 2))) Q) -∗ WP c (k0_part12 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 maskT maskB ((k0_pay52 ((qB m c 1)))) >>= kk) Q) := by
  rw [k0_part12_eq_skeleton]; unfold k0_part12_skel
  simp only [Prog.lift, Prog.bind_op, Prog.bind_ret, Prog.pure_eq_ret]
  iintro HK HV HP102 Hk
  iapply (wp_ldK m c 1 2) $$ HK; iintro HK
  iapply (wp_ldV m c 1 2) $$ HV; iintro HV
  iapply (wp_piece m c 1 0 2 (w := (k0_pay55 maskT ((k0_pay52 ((qB m c 1)))) (kL m c 1 2) (vL m c 1 2))) (blk_top m c 1 2).symm) $$ HP102; iintro HP102
  iapply Hk $$ HK HV HP102

set_option maxRecDepth 65536 in
theorem part13_wp {α : Type} {Q : α → sProp 𝕄} {kk : _ → Prog (TpuEff nD τ sig (Elt F) Λ₀ .tc) α} :
    (pAny c 1 1 2 : sProp 𝕄) ⊢ iprop(kP m c -∗ vP m c -∗ (pG m c 1 1 2 -∗ kP m c -∗ vP m c -∗ WP c (kk ⟨(k0_pay61 maskT ((qB m c 1)) (kL m c 1 3) (vL m c 1 3)), (k0_pay62 maskB ((qB m c 1)) (kL m c 1 3) (vL m c 1 3))⟩) Q) -∗ WP c (k0_part13 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 maskT maskB ((qB m c 1)) ((k0_pay56 maskB ((k0_pay52 ((qB m c 1)))) (kL m c 1 2) (vL m c 1 2))) >>= kk) Q) := by
  rw [k0_part13_eq_skeleton]; unfold k0_part13_skel
  simp only [Prog.lift, Prog.bind_op, Prog.bind_ret, Prog.pure_eq_ret]
  iintro HP112 HK HV Hk
  iapply (wp_piece m c 1 1 2 (w := (k0_pay57 ((k0_pay56 maskB ((k0_pay52 ((qB m c 1)))) (kL m c 1 2) (vL m c 1 2))))) (blk_bot m c 1 2).symm) $$ HP112; iintro HP112
  iapply (wp_ldK m c 1 3) $$ HK; iintro HK
  iapply (wp_ldV m c 1 3) $$ HV; iintro HV
  iapply Hk $$ HP112 HK HV

set_option maxRecDepth 65536 in
theorem part14_wp {α : Type} {Q : α → sProp 𝕄} (v5 : BitVec 32) (v7 : BitVec 32) {kk : _ → Prog (TpuEff nD τ sig (Elt F) Λ₀ .tc) α} :
    (records m K : sProp 𝕄) ⊢ iprop(pAny c 1 0 3 -∗ pAny c 1 1 3 -∗ pG m c 0 0 2 -∗ pG m c 0 1 2 -∗ pG m c 0 0 3 -∗ pG m c 0 1 3 -∗ pG m c 1 0 2 -∗ pG m c 1 1 2 -∗ landing (tgt 1 c) 1 -∗ xfer c 1 -∗ ow c [1, 5, 2, 6, 8, 10, 3, 7, 9, 11] -∗ (sent c 1 -∗ ow c [5, 2, 6, 8, 10, 3, 7, 9, 11] -∗ sendPay m c 5 -∗ qG m c 0 1 fullShare.right.right -∗ WP c (kk ⟨⟩) Q) -∗ WP c (k0_part14 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 c v5 v7 ((k0_pay61 maskT ((qB m c 1)) (kL m c 1 3) (vL m c 1 3))) ((k0_pay62 maskB ((qB m c 1)) (kL m c 1 3) (vL m c 1 3))) >>= kk) Q) := by
  rw [k0_part14_eq_skeleton]; unfold k0_part14_skel
  simp only [Prog.lift, Prog.bind_op, Prog.bind_ret, Prog.pure_eq_ret]
  iintro #HRec HP103 HP113 HP002 HP012 HP003 HP013 HP102 HP112 HL1 HT1 HOw Hk
  iapply (wp_piece m c 1 0 3 (w := (k0_pay63 ((k0_pay61 maskT ((qB m c 1)) (kL m c 1 3) (vL m c 1 3))))) (blk_top m c 1 3).symm) $$ HP103; iintro HP103
  iapply (wp_piece m c 1 1 3 (w := (k0_pay64 ((k0_pay62 maskB ((qB m c 1)) (kL m c 1 3) (vL m c 1 3))))) (blk_bot m c 1 3).symm) $$ HP113; iintro HP113
  ihave HQ := (quarter_sent m c 1 2 3 rfl rfl 1 5 rfl rfl) $$ [HP002 HP012 HP003 HP013 HP102 HP112 HP103 HP113]
  · isplitl [HP002]; · iexact HP002
    isplitl [HP012]; · iexact HP012
    isplitl [HP003]; · iexact HP003
    isplitl [HP013]; · iexact HP013
    isplitl [HP102]; · iexact HP102
    isplitl [HP112]; · iexact HP112
    isplitl [HP103]; · iexact HP103
    iexact HP113
  icases HQ with ⟨HS1, HS5, H0R1⟩
  iapply (wp_snd m K c 1 [5, 2, 6, 8, 10, 3, 7, 9, 11] _ (dev5_eq c) rfl rfl rfl rfl) $$ [HS1 HL1 HT1 HOw]
  · isplitr; · iexact HRec
    isplitl [HS1]; · iexact HS1
    isplitl [HL1]; · iexact HL1
    isplitl [HT1]; · iexact HT1
    iexact HOw
  iintro ⟨HT1, HOw⟩
  iapply Hk $$ HT1 HOw HS5 H0R1

end Cert.RingProof
-- ==== Proof.PartsC.lean ====
/-
  The body's steps, in order: heads 4 and 5.
-/
module

public import proofs.«01_k».proof.Proof.Out

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 25 → ℕ) (c : Dev nD)

set_option maxRecDepth 65536 in
theorem part15_wp {α : Type} {Q : α → sProp 𝕄} {kk : _ → Prog (TpuEff nD τ sig (Elt F) Λ₀ .tc) α} :
    (records m K : sProp 𝕄) ⊢ iprop(sendPay m c 5 -∗ landing (tgt 5 c) 5 -∗ xfer c 5 -∗ ow c [5, 2, 6, 8, 10, 3, 7, 9, 11] -∗ kP m c -∗ vP m c -∗ (sent c 5 -∗ ow c [2, 6, 8, 10, 3, 7, 9, 11] -∗ kP m c -∗ vP m c -∗ WP c (kk ⟨(k0_pay68 maskB ((qB m c 0)) (kL m c 0 4) (vL m c 0 4)), (k0_pay69 maskT ((qB m c 0)) (kL m c 0 4) (vL m c 0 4))⟩) Q) -∗ WP c (k0_part15 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 c maskT maskB ((qB m c 0)) >>= kk) Q) := by
  rw [k0_part15_eq_skeleton]; unfold k0_part15_skel
  simp only [Prog.lift, Prog.bind_op, Prog.bind_ret, Prog.pure_eq_ret]
  iintro #HRec HS5 HL5 HT5 HOw HK HV Hk
  iapply (wp_snd m K c 5 [2, 6, 8, 10, 3, 7, 9, 11] _ (dev6_eq c) rfl rfl rfl rfl) $$ [HS5 HL5 HT5 HOw]
  · isplitr; · iexact HRec
    isplitl [HS5]; · iexact HS5
    isplitl [HL5]; · iexact HL5
    isplitl [HT5]; · iexact HT5
    iexact HOw
  iintro ⟨HT5, HOw⟩
  iapply (wp_ldK m c 0 4) $$ HK; iintro HK
  iapply (wp_ldV m c 0 4) $$ HV; iintro HV
  iapply Hk $$ HT5 HOw HK HV

set_option maxRecDepth 65536 in
theorem part16_wp {α : Type} {Q : α → sProp 𝕄} {kk : _ → Prog (TpuEff nD τ sig (Elt F) Λ₀ .tc) α} :
    (pAny c 0 0 4 : sProp 𝕄) ⊢ iprop(pAny c 0 1 4 -∗ kP m c -∗ vP m c -∗ (pG m c 0 0 4 -∗ pG m c 0 1 4 -∗ kP m c -∗ vP m c -∗ WP c (kk ⟨(k0_pay74 (vL m c 0 5)), (k0_pay75 maskT ((qB m c 0)) (kL m c 0 5) (vL m c 0 5)), (k0_pay76 maskB ((qB m c 0)) (kL m c 0 5)), (k0_pay77 maskB ((qB m c 0)) (kL m c 0 5)), (k0_pay78 (F := F))⟩) Q) -∗ WP c (k0_part16 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 maskT maskB ((qB m c 0)) ((k0_pay68 maskB ((qB m c 0)) (kL m c 0 4) (vL m c 0 4))) ((k0_pay69 maskT ((qB m c 0)) (kL m c 0 4) (vL m c 0 4))) >>= kk) Q) := by
  rw [k0_part16_eq_skeleton]; unfold k0_part16_skel
  simp only [Prog.lift, Prog.bind_op, Prog.bind_ret, Prog.pure_eq_ret]
  iintro HP004 HP014 HK HV Hk
  iapply (wp_piece m c 0 0 4 (w := (k0_pay70 ((k0_pay69 maskT ((qB m c 0)) (kL m c 0 4) (vL m c 0 4))))) (blk_top m c 0 4).symm) $$ HP004; iintro HP004
  iapply (wp_piece m c 0 1 4 (w := (k0_pay71 ((k0_pay68 maskB ((qB m c 0)) (kL m c 0 4) (vL m c 0 4))))) (blk_bot m c 0 4).symm) $$ HP014; iintro HP014
  iapply (wp_ldK m c 0 5) $$ HK; iintro HK
  iapply (wp_ldV m c 0 5) $$ HV; iintro HV
  iapply Hk $$ HP004 HP014 HK HV

set_option maxRecDepth 65536 in
theorem part17_wp {α : Type} {Q : α → sProp 𝕄} {kk : _ → Prog (TpuEff nD τ sig (Elt F) Λ₀ .tc) α} :
    (pAny c 0 0 5 : sProp 𝕄) ⊢ iprop(pAny c 0 1 5 -∗ kP m c -∗ vP m c -∗ (pG m c 0 0 5 -∗ pG m c 0 1 5 -∗ kP m c -∗ vP m c -∗ WP c (kk ⟨(k0_pay82 (kL m c 1 4)), (k0_pay83 (vL m c 1 4)), (k0_pay84 maskT ((qB m c 1)) (kL m c 1 4) (vL m c 1 4)), (k0_pay85 ((qB m c 1))), ((constant S256x512 .f32 0x00000000#32))⟩) Q) -∗ WP c (k0_part17 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 maskT ((qB m c 1)) ((k0_pay74 (vL m c 0 5))) ((k0_pay75 maskT ((qB m c 0)) (kL m c 0 5) (vL m c 0 5))) ((k0_pay76 maskB ((qB m c 0)) (kL m c 0 5))) ((k0_pay77 maskB ((qB m c 0)) (kL m c 0 5))) ((k0_pay78 (F := F))) >>= kk) Q) := by
  rw [k0_part17_eq_skeleton]; unfold k0_part17_skel
  simp only [Prog.lift, Prog.bind_op, Prog.bind_ret, Prog.pure_eq_ret]
  iintro HP005 HP015 HK HV Hk
  iapply (wp_piece m c 0 0 5 (w := (k0_pay79 ((k0_pay75 maskT ((qB m c 0)) (kL m c 0 5) (vL m c 0 5))))) (blk_top m c 0 5).symm) $$ HP005; iintro HP005
  iapply (wp_piece m c 0 1 5 (w := (k0_pay80 ((k0_pay74 (vL m c 0 5))) ((k0_pay76 maskB ((qB m c 0)) (kL m c 0 5))) ((k0_pay77 maskB ((qB m c 0)) (kL m c 0 5))) ((k0_pay78 (F := F))))) (blk_bot m c 0 5).symm) $$ HP015; iintro HP015
  iapply (wp_ldK m c 1 4) $$ HK; iintro HK
  iapply (wp_ldV m c 1 4) $$ HV; iintro HV
  iapply Hk $$ HP005 HP015 HK HV

set_option maxRecDepth 65536 in
theorem part18_wp {α : Type} {Q : α → sProp 𝕄} {kk : _ → Prog (TpuEff nD τ sig (Elt F) Λ₀ .tc) α} :
    (pAny c 1 0 4 : sProp 𝕄) ⊢ iprop(pAny c 1 1 4 -∗ kP m c -∗ vP m c -∗ (pG m c 1 0 4 -∗ pG m c 1 1 4 -∗ kP m c -∗ vP m c -∗ WP c (kk ⟨(k0_pay88 ((qB m c 1))), (k0_pay89 (kL m c 1 5)), (k0_pay90 (vL m c 1 5)), (k0_pay91 maskT ((qB m c 1)) (kL m c 1 5)), (k0_pay92 maskT ((qB m c 1)) (kL m c 1 5)), ((Scalar.ofBits .f32 0x3F800000#32))⟩) Q) -∗ WP c (k0_part18 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 maskT maskB ((qB m c 1)) ((k0_pay82 (kL m c 1 4))) ((k0_pay83 (vL m c 1 4))) ((k0_pay84 maskT ((qB m c 1)) (kL m c 1 4) (vL m c 1 4))) ((k0_pay85 ((qB m c 1)))) (((constant S256x512 .f32 0x00000000#32))) >>= kk) Q) := by
  rw [k0_part18_eq_skeleton]; unfold k0_part18_skel
  simp only [Prog.lift, Prog.bind_op, Prog.bind_ret, Prog.pure_eq_ret]
  iintro HP104 HP114 HK HV Hk
  iapply (wp_piece m c 1 0 4 (w := (k0_pay86 ((k0_pay84 maskT ((qB m c 1)) (kL m c 1 4) (vL m c 1 4))))) (blk_top m c 1 4).symm) $$ HP104; iintro HP104
  iapply (wp_piece m c 1 1 4 (w := (k0_pay87 maskB ((k0_pay82 (kL m c 1 4))) ((k0_pay83 (vL m c 1 4))) ((k0_pay85 ((qB m c 1)))) (((constant S256x512 .f32 0x00000000#32))))) (blk_bot m c 1 4).symm) $$ HP114; iintro HP114
  iapply (wp_ldK m c 1 5) $$ HK; iintro HK
  iapply (wp_ldV m c 1 5) $$ HV; iintro HV
  iapply Hk $$ HP104 HP114 HK HV

set_option maxRecDepth 65536 in
theorem part19_wp {α : Type} {Q : α → sProp 𝕄} (v7 : BitVec 32) {kk : _ → Prog (TpuEff nD τ sig (Elt F) Λ₀ .tc) α} :
    (pAny c 1 0 5 : sProp 𝕄) ⊢ iprop(pAny c 1 1 5 -∗ (pG m c 1 0 5 -∗ pG m c 1 1 5 -∗ WP c (kk ⟨⟩) Q) -∗ WP c (k0_part19 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 v7 maskB ((k0_pay88 ((qB m c 1)))) ((k0_pay89 (kL m c 1 5))) ((k0_pay90 (vL m c 1 5))) ((k0_pay91 maskT ((qB m c 1)) (kL m c 1 5))) ((k0_pay92 maskT ((qB m c 1)) (kL m c 1 5))) (((Scalar.ofBits .f32 0x3F800000#32))) >>= kk) Q) := by
  rw [k0_part19_eq_skeleton]; unfold k0_part19_skel
  simp only [Prog.lift, Prog.bind_op, Prog.bind_ret, Prog.pure_eq_ret]
  iintro HP105 HP115 Hk
  iapply (wp_piece m c 1 0 5 (w := (k0_pay93 ((k0_pay90 (vL m c 1 5))) ((k0_pay91 maskT ((qB m c 1)) (kL m c 1 5))) ((k0_pay92 maskT ((qB m c 1)) (kL m c 1 5))) (((Scalar.ofBits .f32 0x3F800000#32))))) (blk_top m c 1 5).symm) $$ HP105; iintro HP105
  iapply (wp_piece m c 1 1 5 (w := (k0_pay94 maskB ((k0_pay88 ((qB m c 1)))) ((k0_pay89 (kL m c 1 5))) ((k0_pay90 (vL m c 1 5))))) (blk_bot m c 1 5).symm) $$ HP115; iintro HP115
  iapply Hk $$ HP105 HP115

end Cert.RingProof
-- ==== Proof.PartsD.lean ====
/-
  The body's steps, in order: heads 6 and 7.
-/
module

public import proofs.«01_k».proof.Proof.Out

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 25 → ℕ) (c : Dev nD)

set_option maxRecDepth 65536 in
theorem part20_wp {α : Type} {Q : α → sProp 𝕄} (v5 : BitVec 32) (v7 : BitVec 32) {kk : _ → Prog (TpuEff nD τ sig (Elt F) Λ₀ .tc) α} :
    (records m K : sProp 𝕄) ⊢ iprop(levAts L lv -∗ sendPay m c 2 -∗ landing (tgt 2 c) 2 -∗ xfer c 2 -∗ ow c [2, 6, 8, 10, 3, 7, 9, 11] -∗ sendPay m c 6 -∗ landing (tgt 6 c) 6 -∗ xfer c 6 -∗ rcv c 0 -∗ (sent c 2 -∗ ow c [8, 10, 3, 7, 9, 11] -∗ sent c 6 -∗ qG m c 1 0 fullShare.left -∗ qG m c 1 0 fullShare.right -∗ semVal (recvCell c 0) 0 -∗ WP c (kk ⟨⟩) Q) -∗ WP c (k0_part20 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 c v5 v7 >>= kk) Q) := by
  rw [k0_part20_eq_skeleton]; unfold k0_part20_skel
  simp only [Prog.lift, Prog.bind_op, Prog.bind_ret, Prog.pure_eq_ret]
  iintro #HRec #HLev HS2 HL2 HT2 HOw HS6 HL6 HT6 HV0 Hk
  iapply (wp_snd m K c 2 [6, 8, 10, 3, 7, 9, 11] _ (dev7_eq c) rfl rfl rfl rfl) $$ [HS2 HL2 HT2 HOw]
  · isplitr; · iexact HRec
    isplitl [HS2]; · iexact HS2
    isplitl [HL2]; · iexact HL2
    isplitl [HT2]; · iexact HT2
    iexact HOw
  iintro ⟨HT2, HOw⟩
  iapply (wp_snd m K c 6 [8, 10, 3, 7, 9, 11] _ (dev8_eq c) rfl rfl rfl rfl) $$ [HS6 HL6 HT6 HOw]
  · isplitr; · iexact HRec
    isplitl [HS6]; · iexact HS6
    isplitl [HL6]; · iexact HL6
    isplitl [HT6]; · iexact HT6
    iexact HOw
  iintro ⟨HT6, HOw⟩
  iapply (wp_wtF m c K 0 1 0 rfl rfl [8, 10, 3, 7, 9, 11] 2 (by decide) (by decide) rfl (vs := slotQ 0 0) (vd := slotQ 1 0) rfl) $$ [HV0 HOw]
  · isplitr; · iexact HRec
    isplitr; · iexact HLev
    isplitl [HV0]; · iexact HV0
    iexact HOw
  iintro ⟨HW0, HR0, HZ0, HOw⟩
  iapply Hk $$ HT2 HOw HT6 HW0 HR0 HZ0

set_option maxRecDepth 65536 in
theorem part21_wp {α : Type} {Q : α → sProp 𝕄} (v5 : BitVec 32) {kk : _ → Prog (TpuEff nD τ sig (Elt F) Λ₀ .tc) α} :
    (records m K : sProp 𝕄) ⊢ iprop(levAts L lv -∗ qG m c 1 0 fullShare.left -∗ landing (tgt 8 c) 8 -∗ xfer c 8 -∗ ow c [8, 10, 3, 7, 9, 11] -∗ rcv c 5 -∗ landing (tgt 10 c) 10 -∗ xfer c 10 -∗ (sent c 8 -∗ ow c [3, 7, 9, 11] -∗ sent c 10 -∗ qG m c 2 1 fullShare.right -∗ semVal (recvCell c 5) 0 -∗ WP c (kk (k0_pay95 ((qB m c 0)))) Q) -∗ WP c (k0_part21 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 c v5 ((qB m c 0)) >>= kk) Q) := by
  rw [k0_part21_eq_skeleton]; unfold k0_part21_skel
  simp only [Prog.lift, Prog.bind_op, Prog.bind_ret, Prog.pure_eq_ret]
  iintro #HRec #HLev HW0 HL8 HT8 HOw HV5 HL10 HT10 Hk
  iapply (wp_snd m K c 8 [10, 3, 7, 9, 11] _ (dev9_eq c) rfl rfl rfl rfl) $$ [HW0 HL8 HT8 HOw]
  · isplitr; · iexact HRec
    isplitl [HW0]; · iapply (Entails.of_eq (sendPay_8 m c).symm); iexact HW0
    isplitl [HL8]; · iexact HL8
    isplitl [HT8]; · iexact HT8
    iexact HOw
  iintro ⟨HT8, HOw⟩
  iapply (wp_wtF m c K 5 2 1 rfl rfl [10, 3, 7, 9, 11] 2 (by decide) (by decide) rfl (vs := slotQ 0 1) (vd := slotQ 2 1) rfl) $$ [HV5 HOw]
  · isplitr; · iexact HRec
    isplitr; · iexact HLev
    isplitl [HV5]; · iexact HV5
    iexact HOw
  iintro ⟨HW5, HR5, HZ5, HOw⟩
  iapply (wp_snd m K c 10 [3, 7, 9, 11] _ (dev10_eq c) rfl rfl rfl rfl) $$ [HW5 HL10 HT10 HOw]
  · isplitr; · iexact HRec
    isplitl [HW5]; · iapply (Entails.of_eq (sendPay_10 m c).symm); iexact HW5
    isplitl [HL10]; · iexact HL10
    isplitl [HT10]; · iexact HT10
    iexact HOw
  iintro ⟨HT10, HOw⟩
  iapply Hk $$ HT8 HOw HT10 HR5 HZ5

set_option maxRecDepth 65536 in
theorem part22_wp {α : Type} {Q : α → sProp 𝕄} {kk : _ → Prog (TpuEff nD τ sig (Elt F) Λ₀ .tc) α} :
    (kP m c : sProp 𝕄) ⊢ iprop(vP m c -∗ pAny c 0 0 6 -∗ (kP m c -∗ vP m c -∗ pG m c 0 0 6 -∗ WP c (kk (k0_pay99 maskB ((k0_pay95 ((qB m c 0)))) (kL m c 0 6) (vL m c 0 6))) Q) -∗ WP c (k0_part22 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 maskT maskB ((k0_pay95 ((qB m c 0)))) >>= kk) Q) := by
  rw [k0_part22_eq_skeleton]; unfold k0_part22_skel
  simp only [Prog.lift, Prog.bind_op, Prog.bind_ret, Prog.pure_eq_ret]
  iintro HK HV HP006 Hk
  iapply (wp_ldK m c 0 6) $$ HK; iintro HK
  iapply (wp_ldV m c 0 6) $$ HV; iintro HV
  iapply (wp_piece m c 0 0 6 (w := (k0_pay98 maskT ((k0_pay95 ((qB m c 0)))) (kL m c 0 6) (vL m c 0 6))) (blk_top m c 0 6).symm) $$ HP006; iintro HP006
  iapply Hk $$ HK HV HP006

set_option maxRecDepth 65536 in
theorem part23_wp {α : Type} {Q : α → sProp 𝕄} {kk : _ → Prog (TpuEff nD τ sig (Elt F) Λ₀ .tc) α} :
    (pAny c 0 1 6 : sProp 𝕄) ⊢ iprop(kP m c -∗ vP m c -∗ (pG m c 0 1 6 -∗ kP m c -∗ vP m c -∗ WP c (kk ⟨(k0_pay104 maskT ((qB m c 0)) (kL m c 0 7) (vL m c 0 7)), (k0_pay105 maskB ((qB m c 0)) (kL m c 0 7) (vL m c 0 7))⟩) Q) -∗ WP c (k0_part23 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 maskT maskB ((qB m c 0)) ((k0_pay99 maskB ((k0_pay95 ((qB m c 0)))) (kL m c 0 6) (vL m c 0 6))) >>= kk) Q) := by
  rw [k0_part23_eq_skeleton]; unfold k0_part23_skel
  simp only [Prog.lift, Prog.bind_op, Prog.bind_ret, Prog.pure_eq_ret]
  iintro HP016 HK HV Hk
  iapply (wp_piece m c 0 1 6 (w := (k0_pay100 ((k0_pay99 maskB ((k0_pay95 ((qB m c 0)))) (kL m c 0 6) (vL m c 0 6))))) (blk_bot m c 0 6).symm) $$ HP016; iintro HP016
  iapply (wp_ldK m c 0 7) $$ HK; iintro HK
  iapply (wp_ldV m c 0 7) $$ HV; iintro HV
  iapply Hk $$ HP016 HK HV

set_option maxRecDepth 65536 in
theorem part24_wp {α : Type} {Q : α → sProp 𝕄} {kk : _ → Prog (TpuEff nD τ sig (Elt F) Λ₀ .tc) α} :
    (pAny c 0 0 7 : sProp 𝕄) ⊢ iprop(pAny c 0 1 7 -∗ kP m c -∗ vP m c -∗ (pG m c 0 0 7 -∗ pG m c 0 1 7 -∗ kP m c -∗ vP m c -∗ WP c (kk ⟨(k0_pay110 (vL m c 1 6)), (k0_pay111 maskT ((qB m c 1)) (kL m c 1 6) (vL m c 1 6)), (k0_pay112 maskB ((qB m c 1)) (kL m c 1 6))⟩) Q) -∗ WP c (k0_part24 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 maskT maskB ((qB m c 1)) ((k0_pay104 maskT ((qB m c 0)) (kL m c 0 7) (vL m c 0 7))) ((k0_pay105 maskB ((qB m c 0)) (kL m c 0 7) (vL m c 0 7))) >>= kk) Q) := by
  rw [k0_part24_eq_skeleton]; unfold k0_part24_skel
  simp only [Prog.lift, Prog.bind_op, Prog.bind_ret, Prog.pure_eq_ret]
  iintro HP007 HP017 HK HV Hk
  iapply (wp_piece m c 0 0 7 (w := (k0_pay106 ((k0_pay104 maskT ((qB m c 0)) (kL m c 0 7) (vL m c 0 7))))) (blk_top m c 0 7).symm) $$ HP007; iintro HP007
  iapply (wp_piece m c 0 1 7 (w := (k0_pay107 ((k0_pay105 maskB ((qB m c 0)) (kL m c 0 7) (vL m c 0 7))))) (blk_bot m c 0 7).symm) $$ HP017; iintro HP017
  iapply (wp_ldK m c 1 6) $$ HK; iintro HK
  iapply (wp_ldV m c 1 6) $$ HV; iintro HV
  iapply Hk $$ HP007 HP017 HK HV

set_option maxRecDepth 65536 in
theorem part25_wp {α : Type} {Q : α → sProp 𝕄} {kk : _ → Prog (TpuEff nD τ sig (Elt F) Λ₀ .tc) α} :
    (pAny c 1 0 6 : sProp 𝕄) ⊢ iprop(pAny c 1 1 6 -∗ kP m c -∗ vP m c -∗ (pG m c 1 0 6 -∗ pG m c 1 1 6 -∗ kP m c -∗ vP m c -∗ WP c (kk ⟨(k0_pay115 ((qB m c 1))), (k0_pay116 (kL m c 1 7)), (k0_pay117 (vL m c 1 7)), (k0_pay119 maskT ((qB m c 1)) (kL m c 1 7)), (k0_pay120 maskT ((qB m c 1)) (kL m c 1 7) (vL m c 1 7))⟩) Q) -∗ WP c (k0_part25 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 maskT ((qB m c 1)) ((k0_pay110 (vL m c 1 6))) ((k0_pay111 maskT ((qB m c 1)) (kL m c 1 6) (vL m c 1 6))) ((k0_pay112 maskB ((qB m c 1)) (kL m c 1 6))) >>= kk) Q) := by
  rw [k0_part25_eq_skeleton]; unfold k0_part25_skel
  simp only [Prog.lift, Prog.bind_op, Prog.bind_ret, Prog.pure_eq_ret]
  iintro HP106 HP116 HK HV Hk
  iapply (wp_piece m c 1 0 6 (w := (k0_pay113 ((k0_pay111 maskT ((qB m c 1)) (kL m c 1 6) (vL m c 1 6))))) (blk_top m c 1 6).symm) $$ HP106; iintro HP106
  iapply (wp_piece m c 1 1 6 (w := (k0_pay114 ((k0_pay110 (vL m c 1 6))) ((k0_pay112 maskB ((qB m c 1)) (kL m c 1 6))))) (blk_bot m c 1 6).symm) $$ HP116; iintro HP116
  iapply (wp_ldK m c 1 7) $$ HK; iintro HK
  iapply (wp_ldV m c 1 7) $$ HV; iintro HV
  iapply Hk $$ HP106 HP116 HK HV

set_option maxRecDepth 65536 in
theorem part26_wp {α : Type} {Q : α → sProp 𝕄} (v7 : BitVec 32) {kk : _ → Prog (TpuEff nD τ sig (Elt F) Λ₀ .tc) α} :
    (pAny c 1 0 7 : sProp 𝕄) ⊢ iprop(pAny c 1 1 7 -∗ (pG m c 1 0 7 -∗ pG m c 1 1 7 -∗ WP c (kk ⟨⟩) Q) -∗ WP c (k0_part26 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 v7 maskB ((k0_pay115 ((qB m c 1)))) ((k0_pay116 (kL m c 1 7))) ((k0_pay117 (vL m c 1 7))) ((k0_pay119 maskT ((qB m c 1)) (kL m c 1 7))) ((k0_pay120 maskT ((qB m c 1)) (kL m c 1 7) (vL m c 1 7))) >>= kk) Q) := by
  rw [k0_part26_eq_skeleton]; unfold k0_part26_skel
  simp only [Prog.lift, Prog.bind_op, Prog.bind_ret, Prog.pure_eq_ret]
  iintro HP107 HP117 Hk
  iapply (wp_piece m c 1 0 7 (w := (k0_pay121 ((k0_pay119 maskT ((qB m c 1)) (kL m c 1 7))) ((k0_pay120 maskT ((qB m c 1)) (kL m c 1 7) (vL m c 1 7))))) (blk_top m c 1 7).symm) $$ HP107; iintro HP107
  iapply (wp_piece m c 1 1 7 (w := (k0_pay122 maskB ((k0_pay115 ((qB m c 1)))) ((k0_pay116 (kL m c 1 7))) ((k0_pay117 (vL m c 1 7))))) (blk_bot m c 1 7).symm) $$ HP117; iintro HP117
  iapply Hk $$ HP107 HP117

end Cert.RingProof
-- ==== Proof.PartsE.lean ====
/-
  The body's steps, in order: the output products and the last waits.
-/
module

public import proofs.«01_k».proof.Proof.Out

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 25 → ℕ) (c : Dev nD)

set_option maxRecDepth 65536 in
theorem part27_wp {α : Type} {Q : α → sProp 𝕄} (v5 : BitVec 32) (v7 : BitVec 32) {kk : _ → Prog (TpuEff nD τ sig (Elt F) Λ₀ .tc) α} :
    (records m K : sProp 𝕄) ⊢ iprop(levAts L lv -∗ sendPay m c 3 -∗ landing (tgt 3 c) 3 -∗ xfer c 3 -∗ ow c [3, 7, 9, 11] -∗ sendPay m c 7 -∗ landing (tgt 7 c) 7 -∗ xfer c 7 -∗ rcv c 2 -∗ (sent c 3 -∗ ow c [9, 11] -∗ sent c 7 -∗ qG m c 1 2 fullShare.left -∗ qG m c 1 2 fullShare.right -∗ semVal (recvCell c 2) 0 -∗ WP c (kk ⟨⟩) Q) -∗ WP c (k0_part27 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 c v5 v7 >>= kk) Q) := by
  rw [k0_part27_eq_skeleton]; unfold k0_part27_skel
  simp only [Prog.lift, Prog.bind_op, Prog.bind_ret, Prog.pure_eq_ret]
  iintro #HRec #HLev HS3 HL3 HT3 HOw HS7 HL7 HT7 HV2 Hk
  iapply (wp_snd m K c 3 [7, 9, 11] _ (dev11_eq c) rfl rfl rfl rfl) $$ [HS3 HL3 HT3 HOw]
  · isplitr; · iexact HRec
    isplitl [HS3]; · iexact HS3
    isplitl [HL3]; · iexact HL3
    isplitl [HT3]; · iexact HT3
    iexact HOw
  iintro ⟨HT3, HOw⟩
  iapply (wp_snd m K c 7 [9, 11] _ (dev12_eq c) rfl rfl rfl rfl) $$ [HS7 HL7 HT7 HOw]
  · isplitr; · iexact HRec
    isplitl [HS7]; · iexact HS7
    isplitl [HL7]; · iexact HL7
    isplitl [HT7]; · iexact HT7
    iexact HOw
  iintro ⟨HT7, HOw⟩
  iapply (wp_wtF m c K 2 1 2 rfl rfl [9, 11] 2 (by decide) (by decide) rfl (vs := slotQ 0 2) (vd := slotQ 1 2) rfl) $$ [HV2 HOw]
  · isplitr; · iexact HRec
    isplitr; · iexact HLev
    isplitl [HV2]; · iexact HV2
    iexact HOw
  iintro ⟨HW2, HR2, HZ2, HOw⟩
  iapply Hk $$ HT3 HOw HT7 HW2 HR2 HZ2

set_option maxRecDepth 65536 in
theorem part28_wp {α : Type} {Q : α → sProp 𝕄} (v2 : BitVec 32) (v5 : BitVec 32) {kk : _ → Prog (TpuEff nD τ sig (Elt F) Λ₀ .tc) α} :
    (records m K : sProp 𝕄) ⊢ iprop(qG m c 1 2 fullShare.left -∗ landing (tgt 9 c) 9 -∗ xfer c 9 -∗ ow c [9, 11] -∗ woP m c -∗ sP m c 0 fullShare.right.right -∗ oAny c 0 -∗ oAny c 1 -∗ (sent c 9 -∗ ow c [11] -∗ woP m c -∗ sP m c 0 fullShare.right.right -∗ oP c 0 (out1 m c 0) -∗ oP c 1 (out1 m c 1) -∗ WP c (kk ⟨⟩) Q) -∗ WP c (k0_part28 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 c v2 v5 >>= kk) Q) := by
  rw [k0_part28_eq_skeleton]; unfold k0_part28_skel
  simp only [Prog.lift, Prog.bind_op, Prog.bind_ret, Prog.pure_eq_ret]
  iintro #HRec HW2 HL9 HT9 HOw HWO HSl0 HO0 HO1 Hk
  iapply (wp_snd m K c 9 [11] _ (dev13_eq c) rfl rfl rfl rfl) $$ [HW2 HL9 HT9 HOw]
  · isplitr; · iexact HRec
    isplitl [HW2]; · iapply (Entails.of_eq (sendPay_9 m c).symm); iexact HW2
    isplitl [HL9]; · iexact HL9
    isplitl [HT9]; · iexact HT9
    iexact HOw
  iintro ⟨HT9, HOw⟩
  iapply (wp_ldWo m c (k0_off2 c) (k0_off2_inb c)) $$ HWO; iintro HWO
  iapply (wp_ldS m c 0 0 fullShare.right.right) $$ HSl0; iintro HSl0
  iapply (wp_stO c 0 (w := (k0_pay124 (woL m c (k0_off2 c) (k0_off2_inb c)) (sL m c 0 0))) (v := out1 m c 0) rfl) $$ HO0; iintro HO0
  iapply (wp_ldS m c 0 1 fullShare.right.right) $$ HSl0; iintro HSl0
  iapply (wp_stO c 1 (w := (k0_pay125 (woL m c (k0_off2 c) (k0_off2_inb c)) (sL m c 0 1))) (v := out1 m c 1) rfl) $$ HO1; iintro HO1
  iapply Hk $$ HT9 HOw HWO HSl0 HO0 HO1

set_option maxRecDepth 65536 in
theorem part29_wp {α : Type} {Q : α → sProp 𝕄} (v5 : BitVec 32) (v7 : BitVec 32) {kk : _ → Prog (TpuEff nD τ sig (Elt F) Λ₀ .tc) α} :
    (records m K : sProp 𝕄) ⊢ iprop(levAts L lv -∗ rcv c 7 -∗ ow c [11] -∗ landing (tgt 11 c) 11 -∗ xfer c 11 -∗ rcv c 1 -∗ (ow c [] -∗ sent c 11 -∗ qG m c 2 3 fullShare.right -∗ semVal (recvCell c 7) 0 -∗ qG m c 1 1 fullShare.left -∗ qG m c 1 1 fullShare.right -∗ semVal (recvCell c 1) 0 -∗ WP c (kk ⟨⟩) Q) -∗ WP c (k0_part29 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 c v5 v7 >>= kk) Q) := by
  rw [k0_part29_eq_skeleton]; unfold k0_part29_skel
  simp only [Prog.lift, Prog.bind_op, Prog.bind_ret, Prog.pure_eq_ret]
  iintro #HRec #HLev HV7 HOw HL11 HT11 HV1 Hk
  iapply (wp_wtF m c K 7 2 3 rfl rfl [11] 3 (by decide) (by decide) rfl (vs := slotQ 0 3) (vd := slotQ 2 3) rfl) $$ [HV7 HOw]
  · isplitr; · iexact HRec
    isplitr; · iexact HLev
    isplitl [HV7]; · iexact HV7
    iexact HOw
  iintro ⟨HW7, HR7, HZ7, HOw⟩
  iapply (wp_snd m K c 11 [] _ (dev14_eq c) rfl rfl rfl rfl) $$ [HW7 HL11 HT11 HOw]
  · isplitr; · iexact HRec
    isplitl [HW7]; · iapply (Entails.of_eq (sendPay_11 m c).symm); iexact HW7
    isplitl [HL11]; · iexact HL11
    isplitl [HT11]; · iexact HT11
    iexact HOw
  iintro ⟨HT11, HOw⟩
  iapply (wp_wtF m c K 1 1 1 rfl rfl [] 2 (by decide) (by decide) rfl (vs := slotQ 0 1) (vd := slotQ 1 1) rfl) $$ [HV1 HOw]
  · isplitr; · iexact HRec
    isplitr; · iexact HLev
    isplitl [HV1]; · iexact HV1
    iexact HOw
  iintro ⟨HW1, HR1, HZ1, HOw⟩
  iapply Hk $$ HOw HT11 HR7 HZ7 HW1 HR1 HZ1

set_option maxRecDepth 65536 in
theorem part30_wp {α : Type} {Q : α → sProp 𝕄} (v5 : BitVec 32) (v7 : BitVec 32) {kk : _ → Prog (TpuEff nD τ sig (Elt F) Λ₀ .tc) α} :
    (records m K : sProp 𝕄) ⊢ iprop(levAts L lv -∗ rcv c 3 -∗ ow c [] -∗ rcv c 4 -∗ rcv c 6 -∗ woP m c -∗ (ow c [] -∗ woP m c -∗ qG m c 1 3 fullShare.left -∗ qG m c 1 3 fullShare.right -∗ semVal (recvCell c 3) 0 -∗ qG m c 2 0 fullShare.left -∗ qG m c 2 0 fullShare.right -∗ semVal (recvCell c 4) 0 -∗ qG m c 2 2 fullShare.left -∗ qG m c 2 2 fullShare.right -∗ semVal (recvCell c 6) 0 -∗ WP c (kk ⟨(k0_pay126 (woL m c (k0_off3 c) (k0_off3_inb c))), ((Scalar.muli v7 512#32))⟩) Q) -∗ WP c (k0_part30 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 c v5 v7 >>= kk) Q) := by
  rw [k0_part30_eq_skeleton]; unfold k0_part30_skel
  simp only [Prog.lift, Prog.bind_op, Prog.bind_ret, Prog.pure_eq_ret]
  iintro #HRec #HLev HV3 HOw HV4 HV6 HWO Hk
  iapply (wp_wtF m c K 3 1 3 rfl rfl [] 3 (by decide) (by decide) rfl (vs := slotQ 0 3) (vd := slotQ 1 3) rfl) $$ [HV3 HOw]
  · isplitr; · iexact HRec
    isplitr; · iexact HLev
    isplitl [HV3]; · iexact HV3
    iexact HOw
  iintro ⟨HW3, HR3, HZ3, HOw⟩
  iapply (wp_wtF m c K 4 2 0 rfl rfl [] 2 (by decide) (by decide) rfl (vs := slotQ 0 0) (vd := slotQ 2 0) rfl) $$ [HV4 HOw]
  · isplitr; · iexact HRec
    isplitr; · iexact HLev
    isplitl [HV4]; · iexact HV4
    iexact HOw
  iintro ⟨HW4, HR4, HZ4, HOw⟩
  iapply (wp_wtF m c K 6 2 2 rfl rfl [] 2 (by decide) (by decide) rfl (vs := slotQ 0 2) (vd := slotQ 2 2) rfl) $$ [HV6 HOw]
  · isplitr; · iexact HRec
    isplitr; · iexact HLev
    isplitl [HV6]; · iexact HV6
    iexact HOw
  iintro ⟨HW6, HR6, HZ6, HOw⟩
  iapply (wp_ldWo m c (k0_off3 c) (k0_off3_inb c)) $$ HWO; iintro HWO
  iapply Hk $$ HOw HWO HW3 HR3 HZ3 HW4 HR4 HZ4 HW6 HR6 HZ6

set_option maxRecDepth 65536 in
theorem part31_wp {α : Type} {Q : α → sProp 𝕄} (v1007 : BitVec 32) {kk : _ → Prog (TpuEff nD τ sig (Elt F) Λ₀ .tc) α} :
    (woP m c : sProp 𝕄) ⊢ iprop(oP c 0 (out1 m c 0) -∗ sP m c 1 fullShare.right -∗ sP m c 2 fullShare.right -∗ oP c 1 (out1 m c 1) -∗ (woP m c -∗ oP c 0 (out2 m c 0) -∗ sP m c 1 fullShare.right -∗ sP m c 2 fullShare.right -∗ oP c 1 (out1 m c 1) -∗ WP c (kk (k0_pay129 ((k0_pay126 (woL m c (k0_off3 c) (k0_off3_inb c)))) (woL m c (k0_off4 c 1#32) (k0_off4_inb c 0)) (out1 m c 1) (sL m c 1 1) (sL m c 2 1))) Q) -∗ WP c (k0_part31 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 c ((k0_pay126 (woL m c (k0_off3 c) (k0_off3_inb c)))) v1007 >>= kk) Q) := by
  rw [k0_part31_eq_skeleton]; unfold k0_part31_skel
  simp only [Prog.lift, Prog.bind_op, Prog.bind_ret, Prog.pure_eq_ret]
  iintro HWO HO0 HSl1 HSl2 HO1 Hk
  iapply (wp_ldWo m c (k0_off4 c 1#32) (k0_off4_inb c 0)) $$ HWO; iintro HWO
  iapply (wp_ldO c 0 (out1 m c 0)) $$ HO0; iintro HO0
  iapply (wp_ldS m c 1 0 fullShare.right) $$ HSl1; iintro HSl1
  iapply (wp_ldS m c 2 0 fullShare.right) $$ HSl2; iintro HSl2
  ihave HO0 := (oP_any c 0 _) $$ HO0
  iapply (wp_stO c 0 (w := (k0_pay128 ((k0_pay126 (woL m c (k0_off3 c) (k0_off3_inb c)))) (woL m c (k0_off4 c 1#32) (k0_off4_inb c 0)) (out1 m c 0) (sL m c 1 0) (sL m c 2 0))) (v := out2 m c 0) rfl) $$ HO0; iintro HO0
  iapply (wp_ldO c 1 (out1 m c 1)) $$ HO1; iintro HO1
  iapply (wp_ldS m c 1 1 fullShare.right) $$ HSl1; iintro HSl1
  iapply (wp_ldS m c 2 1 fullShare.right) $$ HSl2; iintro HSl2
  iapply Hk $$ HWO HO0 HSl1 HSl2 HO1

set_option maxRecDepth 65536 in
theorem part32_wp {α : Type} {Q : α → sProp 𝕄} (v5 : BitVec 32) (v7 : BitVec 32) {kk : _ → Prog (TpuEff nD τ sig (Elt F) Λ₀ .tc) α} :
    (records m K : sProp 𝕄) ⊢ iprop(levAts L lv -∗ oP c 1 (out1 m c 1) -∗ rcv c 8 -∗ ow c [] -∗ rcv c 10 -∗ (oP c 1 (out2 m c 1) -∗ ow c [] -∗ recvPay m c 8 -∗ semVal (recvCell c 8) 0 -∗ recvPay m c 10 -∗ semVal (recvCell c 10) 0 -∗ WP c (kk ⟨⟩) Q) -∗ WP c (k0_part32 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 v5 v7 ((k0_pay129 ((k0_pay126 (woL m c (k0_off3 c) (k0_off3_inb c)))) (woL m c (k0_off4 c 1#32) (k0_off4_inb c 0)) (out1 m c 1) (sL m c 1 1) (sL m c 2 1))) >>= kk) Q) := by
  rw [k0_part32_eq_skeleton]; unfold k0_part32_skel
  simp only [Prog.lift, Prog.bind_op, Prog.bind_ret, Prog.pure_eq_ret]
  iintro #HRec #HLev HO1 HV8 HOw HV10 Hk
  ihave HO1 := (oP_any c 1 _) $$ HO1
  iapply (wp_stO c 1 (w := (k0_pay130 ((k0_pay129 ((k0_pay126 (woL m c (k0_off3 c) (k0_off3_inb c)))) (woL m c (k0_off4 c 1#32) (k0_off4_inb c 0)) (out1 m c 1) (sL m c 1 1) (sL m c 2 1))))) (v := out2 m c 1) rfl) $$ HO1; iintro HO1
  iapply (wp_wtR m K c 8 [] 3 (by decide) (by decide) rfl (vs := slotQ 1 0) (vd := slotQ 3 0) rfl) $$ [HV8 HOw]
  · isplitr; · iexact HRec
    isplitr; · iexact HLev
    isplitl [HV8]; · iexact HV8
    iexact HOw
  iintro ⟨HF8, HZ8, HOw⟩
  iapply (wp_wtR m K c 10 [] 3 (by decide) (by decide) rfl (vs := slotQ 2 1) (vd := slotQ 3 1) rfl) $$ [HV10 HOw]
  · isplitr; · iexact HRec
    isplitr; · iexact HLev
    isplitl [HV10]; · iexact HV10
    iexact HOw
  iintro ⟨HF10, HZ10, HOw⟩
  iapply Hk $$ HO1 HOw HF8 HZ8 HF10 HZ10

set_option maxRecDepth 65536 in
theorem part33_wp {α : Type} {Q : α → sProp 𝕄} (v5 : BitVec 32) (v9 : BitVec 32) {kk : _ → Prog (TpuEff nD τ sig (Elt F) Λ₀ .tc) α} :
    (records m K : sProp 𝕄) ⊢ iprop(levAts L lv -∗ rcv c 9 -∗ ow c [] -∗ rcv c 11 -∗ woP m c -∗ oP c 0 (out2 m c 0) -∗ recvPay m c 8 -∗ recvPay m c 10 -∗ oP c 1 (out2 m c 1) -∗ (ow c [] -∗ woP m c -∗ oP c 0 (out3 m c 0) -∗ oP c 1 (out2 m c 1) -∗ semVal (recvCell c 9) 0 -∗ semVal (recvCell c 11) 0 -∗ sP m c 3 fullShare -∗ WP c (kk ⟨(k0_pay131 (woL m c (k0_off4 c 2#32) (k0_off4_inb c 1))), (k0_pay133 (out2 m c 1))⟩) Q) -∗ WP c (k0_part33 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 c v5 v9 >>= kk) Q) := by
  rw [k0_part33_eq_skeleton]; unfold k0_part33_skel
  simp only [Prog.lift, Prog.bind_op, Prog.bind_ret, Prog.pure_eq_ret]
  iintro #HRec #HLev HV9 HOw HV11 HWO HO0 HF8 HF10 HO1 Hk
  iapply (wp_wtR m K c 9 [] 3 (by decide) (by decide) rfl (vs := slotQ 1 2) (vd := slotQ 3 2) rfl) $$ [HV9 HOw]
  · isplitr; · iexact HRec
    isplitr; · iexact HLev
    isplitl [HV9]; · iexact HV9
    iexact HOw
  iintro ⟨HF9, HZ9, HOw⟩
  iapply (wp_wtR m K c 11 [] 4 (by decide) (by decide) rfl (vs := slotQ 2 3) (vd := slotQ 3 3) rfl) $$ [HV11 HOw]
  · isplitr; · iexact HRec
    isplitr; · iexact HLev
    isplitl [HV11]; · iexact HV11
    iexact HOw
  iintro ⟨HF11, HZ11, HOw⟩
  iapply (wp_ldWo m c (k0_off4 c 2#32) (k0_off4_inb c 1)) $$ HWO; iintro HWO
  iapply (wp_ldO c 0 (out2 m c 0)) $$ HO0; iintro HO0
  ihave HF8 := (Entails.of_eq (recvPay_8 m c)) $$ HF8
  ihave HF9 := (Entails.of_eq (recvPay_9 m c)) $$ HF9
  ihave HF10 := (Entails.of_eq (recvPay_10 m c)) $$ HF10
  ihave HF11 := (Entails.of_eq (recvPay_11 m c)) $$ HF11
  ihave HSl3 := (slot_done m c 3 fullShare) $$ HF8 HF10 HF9 HF11
  iapply (wp_ldS m c 3 0 fullShare) $$ HSl3; iintro HSl3
  ihave HO0 := (oP_any c 0 _) $$ HO0
  iapply (wp_stO c 0 (w := (k0_pay132 (woL m c (k0_off4 c 2#32) (k0_off4_inb c 1)) (out2 m c 0) (sL m c 3 0))) (v := out3 m c 0) rfl) $$ HO0; iintro HO0
  iapply (wp_ldO c 1 (out2 m c 1)) $$ HO1; iintro HO1
  iapply Hk $$ HOw HWO HO0 HO1 HZ9 HZ11 HSl3

set_option maxRecDepth 65536 in
theorem part34_wp {α : Type} {Q : α → sProp 𝕄} {kk : _ → Prog (TpuEff nD τ sig (Elt F) Λ₀ .tc) α} :
    (records m K : sProp 𝕄) ⊢ iprop(sP m c 3 fullShare -∗ oP c 1 (out2 m c 1) -∗ sent c 0 -∗ ow c [] -∗ sent c 1 -∗ (sP m c 3 fullShare -∗ oP c 1 (out3 m c 1) -∗ ow c [] -∗ sendPay m c 0 -∗ semVal (sendCell c 0) 0 -∗ sendPay m c 1 -∗ semVal (sendCell c 1) 0 -∗ WP c (kk ⟨⟩) Q) -∗ WP c (k0_part34 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2 ((k0_pay131 (woL m c (k0_off4 c 2#32) (k0_off4_inb c 1)))) ((k0_pay133 (out2 m c 1))) >>= kk) Q) := by
  rw [k0_part34_eq_skeleton]; unfold k0_part34_skel
  simp only [Prog.lift, Prog.bind_op, Prog.bind_ret, Prog.pure_eq_ret]
  iintro #HRec HSl3 HO1 HT0 HOw HT1 Hk
  iapply (wp_ldS m c 3 1 fullShare) $$ HSl3; iintro HSl3
  ihave HO1 := (oP_any c 1 _) $$ HO1
  iapply (wp_stO c 1 (w := (k0_pay134 ((k0_pay131 (woL m c (k0_off4 c 2#32) (k0_off4_inb c 1)))) ((k0_pay133 (out2 m c 1))) (sL m c 3 1))) (v := out3 m c 1) rfl) $$ HO1; iintro HO1
  iapply (wp_wtS m K c 0 rfl (vs := slotQ 1 0) (vd := slotQ 0 0) rfl) $$ [HT0 HOw]
  · isplitr; · iexact HRec
    isplitl [HT0]; · iexact HT0
    iexact HOw
  iintro ⟨HS0, HY0, HOw⟩
  iapply (wp_wtS m K c 1 rfl (vs := slotQ 1 1) (vd := slotQ 0 1) rfl) $$ [HT1 HOw]
  · isplitr; · iexact HRec
    isplitl [HT1]; · iexact HT1
    iexact HOw
  iintro ⟨HS1, HY1, HOw⟩
  iapply Hk $$ HSl3 HO1 HOw HS0 HY0 HS1 HY1

set_option maxRecDepth 65536 in
theorem part35_wp {α : Type} {Q : α → sProp 𝕄} {kk : _ → Prog (TpuEff nD τ sig (Elt F) Λ₀ .tc) α} :
    (records m K : sProp 𝕄) ⊢ iprop(sent c 2 -∗ ow c [] -∗ sent c 3 -∗ sent c 4 -∗ (ow c [] -∗ sendPay m c 2 -∗ semVal (sendCell c 2) 0 -∗ sendPay m c 3 -∗ semVal (sendCell c 3) 0 -∗ sendPay m c 4 -∗ semVal (sendCell c 4) 0 -∗ WP c (kk ⟨⟩) Q) -∗ WP c (k0_part35 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2  >>= kk) Q) := by
  rw [k0_part35_eq_skeleton]; unfold k0_part35_skel
  simp only [Prog.lift, Prog.bind_op, Prog.bind_ret, Prog.pure_eq_ret]
  iintro #HRec HT2 HOw HT3 HT4 Hk
  iapply (wp_wtS m K c 2 rfl (vs := slotQ 1 2) (vd := slotQ 0 2) rfl) $$ [HT2 HOw]
  · isplitr; · iexact HRec
    isplitl [HT2]; · iexact HT2
    iexact HOw
  iintro ⟨HS2, HY2, HOw⟩
  iapply (wp_wtS m K c 3 rfl (vs := slotQ 1 3) (vd := slotQ 0 3) rfl) $$ [HT3 HOw]
  · isplitr; · iexact HRec
    isplitl [HT3]; · iexact HT3
    iexact HOw
  iintro ⟨HS3, HY3, HOw⟩
  iapply (wp_wtS m K c 4 rfl (vs := slotQ 2 0) (vd := slotQ 0 0) rfl) $$ [HT4 HOw]
  · isplitr; · iexact HRec
    isplitl [HT4]; · iexact HT4
    iexact HOw
  iintro ⟨HS4, HY4, HOw⟩
  iapply Hk $$ HOw HS2 HY2 HS3 HY3 HS4 HY4

set_option maxRecDepth 65536 in
theorem part36_wp {α : Type} {Q : α → sProp 𝕄} {kk : _ → Prog (TpuEff nD τ sig (Elt F) Λ₀ .tc) α} :
    (records m K : sProp 𝕄) ⊢ iprop(sent c 5 -∗ ow c [] -∗ sent c 6 -∗ sent c 7 -∗ sent c 8 -∗ (ow c [] -∗ sendPay m c 5 -∗ semVal (sendCell c 5) 0 -∗ sendPay m c 6 -∗ semVal (sendCell c 6) 0 -∗ sendPay m c 7 -∗ semVal (sendCell c 7) 0 -∗ sendPay m c 8 -∗ semVal (sendCell c 8) 0 -∗ WP c (kk ⟨⟩) Q) -∗ WP c (k0_part36 xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2  >>= kk) Q) := by
  rw [k0_part36_eq_skeleton]; unfold k0_part36_skel
  simp only [Prog.lift, Prog.bind_op, Prog.bind_ret, Prog.pure_eq_ret]
  iintro #HRec HT5 HOw HT6 HT7 HT8 Hk
  iapply (wp_wtS m K c 5 rfl (vs := slotQ 2 1) (vd := slotQ 0 1) rfl) $$ [HT5 HOw]
  · isplitr; · iexact HRec
    isplitl [HT5]; · iexact HT5
    iexact HOw
  iintro ⟨HS5, HY5, HOw⟩
  iapply (wp_wtS m K c 6 rfl (vs := slotQ 2 2) (vd := slotQ 0 2) rfl) $$ [HT6 HOw]
  · isplitr; · iexact HRec
    isplitl [HT6]; · iexact HT6
    iexact HOw
  iintro ⟨HS6, HY6, HOw⟩
  iapply (wp_wtS m K c 7 rfl (vs := slotQ 2 3) (vd := slotQ 0 3) rfl) $$ [HT7 HOw]
  · isplitr; · iexact HRec
    isplitl [HT7]; · iexact HT7
    iexact HOw
  iintro ⟨HS7, HY7, HOw⟩
  iapply (wp_wtS m K c 8 rfl (vs := slotQ 3 0) (vd := slotQ 1 0) rfl) $$ [HT8 HOw]
  · isplitr; · iexact HRec
    isplitl [HT8]; · iexact HT8
    iexact HOw
  iintro ⟨HS8, HY8, HOw⟩
  iapply Hk $$ HOw HS5 HY5 HS6 HY6 HS7 HY7 HS8 HY8

end Cert.RingProof
-- ==== Proof.Body.lean ====
/-
  The whole body: its steps one after the other, from what a device starts with to what it leaves.
-/
module

public import proofs.«01_k».proof.Proof.Gen.KernelIdeal.Points
public import proofs.«01_k».proof.Proof.Start
public import proofs.«01_k».proof.Proof.PartsA
public import proofs.«01_k».proof.Proof.PartsB
public import proofs.«01_k».proof.Proof.PartsC
public import proofs.«01_k».proof.Proof.PartsD
public import proofs.«01_k».proof.Proof.PartsE

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The result buffer -/

/-- The kernel's result on device `c`. -/
def outC (c : Dev nD) : (cc0_stg5_0 : Ref sig .tc).ty.Contents (Elt F) := fun i : OIx => out3 m c (i 0) (inHalf i)

theorem oset_univ : (Finset.univ : Finset OIx) = oset 0 ∪ oset 1 := by
  ext i
  simp only [Finset.mem_univ, Finset.mem_union, mem_oset, true_iff]
  have h : (i 0 : ℕ) < 2 := (i 0).2
  show (i 0 : ℕ) = 0 ∨ (i 0 : ℕ) = 1
  omega
theorem oset_disj : Disjoint (oset 0) (oset 1) := by
  rw [Finset.disjoint_left]; intro i h h'
  rw [mem_oset] at h h'
  exact absurd (h.symm.trans h') (by decide)

theorem out_fresh (c : Dev nD) (f : Buf (Elt F) ((c : Thread nD τ).loc cc0_stg5_0)) :
    ((c : Thread nD τ).loc cc0_stg5_0 ↦{fullShare} f : sProp 𝕄) ⊢ iprop(oAny c 0 ∗ oAny c 1) := by
  unfold oAny
  iintro H
  ihave H := (Entails.of_eq (congrArg (fun I => ((c : Thread nD τ).loc cc0_stg5_0 ↦[I]{fullShare} f : sProp 𝕄)) oset_univ)) $$ H
  ihave H := (pointsTo_union oset_disj).1 $$ H
  icases H with ⟨H0, H1⟩
  isplitl [H0]; · iexists f; iexact H0
  iexists f; iexact H1

theorem out_half (c : Dev nD) (b : Fin 2) (i : OIx) (h : i ∈ oset b) : oF c (out3 m c b) i = outC m c i := by
  have e : (i 0 : Fin 2) = b := Fin.ext (mem_oset.mp h)
  unfold outC
  rw [show out3 m c (i 0) = out3 m c b from congrArg (out3 m c) e]
  rfl

theorem out_done (c : Dev nD) :
    iprop(oP c 0 (out3 m c 0) ∗ oP c 1 (out3 m c 1)) ⊢ ((c : Thread nD τ).loc cc0_stg5_0 ↦{fullShare} outC m c : sProp 𝕄) := by
  unfold oP
  iintro ⟨H0, H1⟩
  iapply (Entails.of_eq (congrArg (fun I => ((c : Thread nD τ).loc cc0_stg5_0 ↦[I]{fullShare} outC m c : sProp 𝕄)) oset_univ).symm)
  iapply (pointsTo_union oset_disj).2
  isplitl [H0]
  · ihave H := (Entails.of_eq (pointsTo_congr (g := outC m c) (fun i hi => out_half m c 0 i hi))) $$ H0
    iexact H
  · ihave H := (Entails.of_eq (pointsTo_congr (g := outC m c) (fun i hi => out_half m c 1 i hi))) $$ H1
    iexact H

/-! ## The pipeline's data -/

/-- The memory at launch: arbitrary contents, every counter zero. -/
def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m c
    | ⟨1, _⟩ => wqC m c
    | ⟨2, _⟩ => kC m c
    | ⟨3, _⟩ => vC m c
    | ⟨4, _⟩ => woC m c
    | ⟨5, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 65536 in
def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ m c ∗ (dats m ρ 0 c).owesAt () t₀.succ ∗ stg c cc0_stg0_0 (xC m c) ∗ stg c cc0_stg1_0 (wqC m c)
    ∗ stg c cc0_stg2_0 (kC m c) ∗ stg c cc0_stg3_0 (vC m c) ∗ stg c cc0_stg4_0 (woC m c) ∗ stg c cc0_stg5_0 (outC m c))

theorem WP_bind (c : Dev nD) {α β : Type} {Q : β → sProp 𝕄} (p : Prog (TpuEff nD τ sig (Elt F) Λ₀ .tc) α) (k : α → Prog (TpuEff nD τ sig (Elt F) Λ₀ .tc) β) :
    WP c (p >>= k) Q = WP c p (fun a => WP c (k a) Q) := wp_bind ..
theorem WP_ret (c : Dev nD) {α : Type} {Q : α → sProp 𝕄} (a : α) : Q a ⊢ WP c (.ret a) Q := by
  unfold WP; rw [wp_ret]; iintro H; imodintro; iexact H

theorem rcv_intro (c : Dev nD) (k : Fin 12) :
    (atPos ER (recvCell c k) 0 ∅ 0 : sProp 𝕄) ⊢ iprop(cred (tallyAt (recvCell c k) () N) -∗ rcv c k) := by
  unfold rcv; iintro H1 H2; isplitl [H1]; · iexact H1
  iexact H2

theorem quarter_fresh' (c : Dev nD) (q : Fin 4) (h0 h1 : Fin 8) (e0 : hd q 0 = h0) (e1 : hd q 1 = h1) :
    iprop(∃ f, (c : Thread nD τ).loc cc0_scratch0 ↦[qset 0 q]{fullShare} f : sProp 𝕄)
      ⊢ iprop(pAny c 0 0 h0 ∗ pAny c 0 1 h0 ∗ pAny c 0 0 h1 ∗ pAny c 0 1 h1 ∗ pAny c 1 0 h0 ∗ pAny c 1 1 h0 ∗ pAny c 1 0 h1 ∗ pAny c 1 1 h1) := by
  subst e0 e1; exact quarter_fresh c q

set_option maxRecDepth 65536 in
set_option maxHeartbeats 4000000 in
/-- The body, from `bodyPre` to `bodyPost`. -/
theorem sound_body (c : Dev nD) :
    bodyPre m ρ c ⊢ WP c (cc0_body xM (Memref.isWhole_whole _) wqM (Memref.isWhole_whole _) kM (Memref.isWhole_whole _) vM (Memref.isWhole_whole _) woM (Memref.isWhole_whole _) oM (Memref.isWhole_whole _) sM (Memref.isWhole_whole _) cc0_scratch1 cc0_scratch2) (fun _ => bodyPost m ρ c) := by
  rw [cc0_body_eq_skeleton]; unfold cc0_body_skel
  rw [WP_bind, k0_part37_eq_skeleton]; unfold k0_part37_skel
  unfold bodyPre Φ₀ start ghost
  simp only [bigSep_fin12]
  iintro ⟨⟨⟨⟨%K, #HRec, HatB, HtP, HtN, ⟨HT0, HT1, HT2, HT3, HT4, HT5, HT6, HT7, HT8, HT9, HT10, HT11⟩, ⟨HA0, HA1, HA2, HA3, HA4, HA5, HA6, HA7, HA8, HA9, HA10, HA11⟩⟩, HcB, ⟨HC0, HC1, HC2, HC3, HC4, HC5, HC6, HC7, HC8, HC9, HC10, HC11⟩, #HLev⟩, ⟨%f0, Hscr⟩⟩, Ho, ⟨%d0, %g0, %hg0, HX⟩, ⟨%d1, %g1, %hg1, HWQ⟩, ⟨%d2, %g2, %hg2, HK⟩, ⟨%d3, %g3, %hg3, HV⟩, ⟨%d4, %g4, %hg4, HWO⟩, ⟨%d5, %g5, %hg5, HOut⟩⟩
  have h0 : g0 = xC m c := by rw [hg0]; unfold Dat.before; rw [if_pos (fetch0_0 t₀)]; rfl
  subst h0
  have h1 : g1 = wqC m c := by rw [hg1]; unfold Dat.before; rw [if_pos (fetch0_1 t₀)]; rfl
  subst h1
  have h2 : g2 = kC m c := by rw [hg2]; unfold Dat.before; rw [if_pos (fetch0_2 t₀)]; rfl
  subst h2
  have h3 : g3 = vC m c := by rw [hg3]; unfold Dat.before; rw [if_pos (fetch0_3 t₀)]; rfl
  subst h3
  have h4 : g4 = woC m c := by rw [hg4]; unfold Dat.before; rw [if_pos (fetch0_4 t₀)]; rfl
  subst h4
  unfold Dat.owesAt Pipeline.owesWithin
  icases Ho with ⟨%W, %hW, HO⟩
  rw [show (dats m ρ 0 c).owed t₀.castSucc = O₀ c from rfl]
  ihave HV0 := (rcv_intro c 0) $$ HA0 HC0
  ihave HV1 := (rcv_intro c 1) $$ HA1 HC1
  ihave HV2 := (rcv_intro c 2) $$ HA2 HC2
  ihave HV3 := (rcv_intro c 3) $$ HA3 HC3
  ihave HV4 := (rcv_intro c 4) $$ HA4 HC4
  ihave HV5 := (rcv_intro c 5) $$ HA5 HC5
  ihave HV6 := (rcv_intro c 6) $$ HA6 HC6
  ihave HV7 := (rcv_intro c 7) $$ HA7 HC7
  ihave HV8 := (rcv_intro c 8) $$ HA8 HC8
  ihave HV9 := (rcv_intro c 9) $$ HA9 HC9
  ihave HV10 := (rcv_intro c 10) $$ HA10 HC10
  ihave HV11 := (rcv_intro c 11) $$ HA11 HC11
  ihave HF := (scratch_fresh c f0) $$ Hscr
  icases HF with ⟨HQ0, HQ1, HQ2, HQ3, HbP, HbN⟩
  ihave HQ := (quarter_fresh' c 0 0 1 rfl rfl) $$ HQ0
  icases HQ with ⟨HP000, HP010, HP001, HP011, HP100, HP110, HP101, HP111⟩
  ihave HQ := (quarter_fresh' c 1 2 3 rfl rfl) $$ HQ1
  icases HQ with ⟨HP002, HP012, HP003, HP013, HP102, HP112, HP103, HP113⟩
  ihave HQ := (quarter_fresh' c 2 4 5 rfl rfl) $$ HQ2
  icases HQ with ⟨HP004, HP014, HP005, HP015, HP104, HP114, HP105, HP115⟩
  ihave HQ := (quarter_fresh' c 3 6 7 rfl rfl) $$ HQ3
  icases HQ with ⟨HP006, HP016, HP007, HP017, HP106, HP116, HP107, HP117⟩
  ihave HF := (out_fresh c g5) $$ HOut
  icases HF with ⟨HO0, HO1⟩
  ihave HX := (Entails.of_eq (xP.eq_1 m c).symm) $$ HX
  ihave HWQ := (Entails.of_eq (wqP.eq_1 m c).symm) $$ HWQ
  ihave HK := (Entails.of_eq (kP.eq_1 m c).symm) $$ HK
  ihave HV := (Entails.of_eq (vP.eq_1 m c).symm) $$ HV
  ihave HWO := (Entails.of_eq (woP.eq_1 m c).symm) $$ HWO
  iapply (part1_wp m K c W) $$ HRec HLev HO HatB HtP HtN HcB HbP HbN; iintro HbF HbT HzB HOw
  ihave HbT := (Entails.of_eq (barPay_true c)) $$ HbT
  ihave HbF := (Entails.of_eq (barPay_false c)) $$ HbF
  icases HbT with ⟨HL0, HL1, HL2, HL3, HL8, HL9⟩
  icases HbF with ⟨HL4, HL5, HL6, HL7, HL10, HL11⟩
  iapply (part2_wp c)
  iapply (part3_wp m c _) $$ HWQ; iintro HWQ
  iapply (part4_wp m c) $$ HX HK HV; iintro HX HK HV
  iapply (part5_wp m c) $$ HP000 HP010 HK HV; iintro HP000 HP010 HK HV
  iapply (part6_wp m c) $$ HP001 HP011 HK HV; iintro HP001 HP011 HK HV
  iapply (part7_wp m c) $$ HP100 HP110 HK HV; iintro HP100 HP110 HK HV
  iapply (part8_wp m c _) $$ HP101 HP111; iintro HP101 HP111
  ihave HQ := (quarter_sent m c 0 0 1 rfl rfl 0 4 rfl rfl) $$ [HP000 HP010 HP001 HP011 HP100 HP110 HP101 HP111]
  · isplitl [HP000]; · iexact HP000
    isplitl [HP010]; · iexact HP010
    isplitl [HP001]; · iexact HP001
    isplitl [HP011]; · iexact HP011
    isplitl [HP100]; · iexact HP100
    isplitl [HP110]; · iexact HP110
    isplitl [HP101]; · iexact HP101
    iexact HP111
  icases HQ with ⟨HS0, HS4, H0R0⟩
  iapply (part9_wp m K c _) $$ HRec HS0 HL0 HT0 HOw HS4 HL4 HT4 HK HV; iintro HT0 HOw HT4 HK HV
  iapply (part10_wp m c) $$ HP002 HP012 HK; iintro HP002 HP012 HK
  iapply (part11_wp m c) $$ HV HP003 HP013; iintro HV HP003 HP013
  iapply (part12_wp m c) $$ HK HV HP102; iintro HK HV HP102
  iapply (part13_wp m c) $$ HP112 HK HV; iintro HP112 HK HV
  iapply (part14_wp m K c _ _) $$ HRec HP103 HP113 HP002 HP012 HP003 HP013 HP102 HP112 HL1 HT1 HOw; iintro HT1 HOw HS5 H0R1
  iapply (part15_wp m K c) $$ HRec HS5 HL5 HT5 HOw HK HV; iintro HT5 HOw HK HV
  iapply (part16_wp m c) $$ HP004 HP014 HK HV; iintro HP004 HP014 HK HV
  iapply (part17_wp m c) $$ HP005 HP015 HK HV; iintro HP005 HP015 HK HV
  iapply (part18_wp m c) $$ HP104 HP114 HK HV; iintro HP104 HP114 HK HV
  iapply (part19_wp m c _) $$ HP105 HP115; iintro HP105 HP115
  ihave HQ := (quarter_sent m c 2 4 5 rfl rfl 2 6 rfl rfl) $$ [HP004 HP014 HP005 HP015 HP104 HP114 HP105 HP115]
  · isplitl [HP004]; · iexact HP004
    isplitl [HP014]; · iexact HP014
    isplitl [HP005]; · iexact HP005
    isplitl [HP015]; · iexact HP015
    isplitl [HP104]; · iexact HP104
    isplitl [HP114]; · iexact HP114
    isplitl [HP105]; · iexact HP105
    iexact HP115
  icases HQ with ⟨HS2, HS6, H0R2⟩
  iapply (part20_wp m K c _ _) $$ HRec HLev HS2 HL2 HT2 HOw HS6 HL6 HT6 HV0; iintro HT2 HOw HT6 HW0 HR0 HZ0
  iapply (part21_wp m K c _) $$ HRec HLev HW0 HL8 HT8 HOw HV5 HL10 HT10; iintro HT8 HOw HT10 HR5 HZ5
  iapply (part22_wp m c) $$ HK HV HP006; iintro HK HV HP006
  iapply (part23_wp m c) $$ HP016 HK HV; iintro HP016 HK HV
  iapply (part24_wp m c) $$ HP007 HP017 HK HV; iintro HP007 HP017 HK HV
  iapply (part25_wp m c) $$ HP106 HP116 HK HV; iintro HP106 HP116 HK HV
  iapply (part26_wp m c _) $$ HP107 HP117; iintro HP107 HP117
  ihave HQ := (quarter_sent m c 3 6 7 rfl rfl 3 7 rfl rfl) $$ [HP006 HP016 HP007 HP017 HP106 HP116 HP107 HP117]
  · isplitl [HP006]; · iexact HP006
    isplitl [HP016]; · iexact HP016
    isplitl [HP007]; · iexact HP007
    isplitl [HP017]; · iexact HP017
    isplitl [HP106]; · iexact HP106
    isplitl [HP116]; · iexact HP116
    isplitl [HP107]; · iexact HP107
    iexact HP117
  icases HQ with ⟨HS3, HS7, H0R3⟩
  iapply (part27_wp m K c _ _) $$ HRec HLev HS3 HL3 HT3 HOw HS7 HL7 HT7 HV2; iintro HT3 HOw HT7 HW2 HR2 HZ2
  ihave HSl0 := (slot_done m c 0 fullShare.right.right) $$ H0R0 H0R1 H0R2 H0R3
  iapply (part28_wp m K c _ _) $$ HRec HW2 HL9 HT9 HOw HWO HSl0 HO0 HO1; iintro HT9 HOw HWO HSl0 HO0 HO1
  iapply (part29_wp m K c _ _) $$ HRec HLev HV7 HOw HL11 HT11 HV1; iintro HOw HT11 HR7 HZ7 HW1 HR1 HZ1
  iapply (part30_wp m K c _ _) $$ HRec HLev HV3 HOw HV4 HV6 HWO; iintro HOw HWO HW3 HR3 HZ3 HW4 HR4 HZ4 HW6 HR6 HZ6
  ihave HSl1 := (slot_done m c 1 fullShare.right) $$ HR0 HR1 HR2 HR3
  ihave HSl2 := (slot_done m c 2 fullShare.right) $$ HR4 HR5 HR6 HR7
  iapply (part31_wp m c _) $$ HWO HO0 HSl1 HSl2 HO1; iintro HWO HO0 HSl1 HSl2 HO1
  iapply (part32_wp m K c _ _) $$ HRec HLev HO1 HV8 HOw HV10; iintro HO1 HOw HF8 HZ8 HF10 HZ10
  iapply (part33_wp m K c _ _) $$ HRec HLev HV9 HOw HV11 HWO HO0 HF8 HF10 HO1; iintro HOw HWO HO0 HO1 HZ9 HZ11 HSl3
  iapply (part34_wp m K c) $$ HRec HSl3 HO1 HT0 HOw HT1; iintro HSl3 HO1 HOw HS0 HY0 HS1 HY1
  iapply (part35_wp m K c) $$ HRec HT2 HOw HT3 HT4; iintro HOw HS2 HY2 HS3 HY3 HS4 HY4
  iapply (part36_wp m K c) $$ HRec HT5 HOw HT6 HT7 HT8; iintro HOw HS5 HY5 HS6 HY6 HS7 HY7 HS8 HY8
  simp only [Prog.lift, Prog.bind_op, Prog.bind_ret, Prog.pure_eq_ret]
  iapply (wp_wtS m K c 9 rfl (vs := slotQ 3 2) (vd := slotQ 1 2) rfl) $$ [HT9 HOw]
  · isplitr; · iexact HRec
    isplitl [HT9]; · iexact HT9
    iexact HOw
  iintro ⟨HS9, HY9, HOw⟩
  iapply (WP_ret c)
  iapply (wp_wtS m K c 10 rfl (vs := slotQ 3 1) (vd := slotQ 2 1) rfl) $$ [HT10 HOw]
  · isplitr; · iexact HRec
    isplitl [HT10]; · iexact HT10
    iexact HOw
  iintro ⟨HS10, HY10, HOw⟩
  iapply (wp_wtS m K c 11 rfl (vs := slotQ 3 3) (vd := slotQ 2 3) rfl) $$ [HT11 HOw]
  · isplitr; · iexact HRec
    isplitl [HT11]; · iexact HT11
    iexact HOw
  iintro ⟨HS11, HY11, HOw⟩
  iapply (WP_ret c)
  ihave HS0 := (Entails.of_eq (sendPay_0 m c)) $$ HS0
  ihave HS1 := (Entails.of_eq (sendPay_1 m c)) $$ HS1
  ihave HS2 := (Entails.of_eq (sendPay_2 m c)) $$ HS2
  ihave HS3 := (Entails.of_eq (sendPay_3 m c)) $$ HS3
  ihave HS4 := (Entails.of_eq (sendPay_4 m c)) $$ HS4
  ihave HS5 := (Entails.of_eq (sendPay_5 m c)) $$ HS5
  ihave HS6 := (Entails.of_eq (sendPay_6 m c)) $$ HS6
  ihave HS7 := (Entails.of_eq (sendPay_7 m c)) $$ HS7
  ihave HS8 := (Entails.of_eq (sendPay_8 m c)) $$ HS8
  ihave HS9 := (Entails.of_eq (sendPay_9 m c)) $$ HS9
  ihave HS10 := (Entails.of_eq (sendPay_10 m c)) $$ HS10
  ihave HS11 := (Entails.of_eq (sendPay_11 m c)) $$ HS11
  -- the shares of the four slots come together again
  ihave HA0 := (slot_done m c 0 fullShare.left) $$ HS0 HS1 HS2 HS3
  ihave HA1 := (slot_done m c 0 fullShare.right.left) $$ HS4 HS5 HS6 HS7
  ihave HA2 := (slot_done m c 1 fullShare.left) $$ HS8 HW1 HS9 HW3
  ihave HA3 := (slot_done m c 2 fullShare.left) $$ HW4 HS10 HW6 HS11
  ihave HSc := (scratch_done m c) $$ HA0 HA1 HSl0 HA2 HSl1 HA3 HSl2 HSl3
  unfold bodyPost Φ₁ Dat.owesAt Pipeline.owesWithin
  rw [show (dats m ρ 0 c).owed t₀.succ = 0 from rfl]
  simp only [bigSep_fin12]
  isplitl [HSc HzB HY0 HY1 HY2 HY3 HY4 HY5 HY6 HY7 HY8 HY9 HY10 HY11 HZ0 HZ1 HZ2 HZ3 HZ4 HZ5 HZ6 HZ7 HZ8 HZ9 HZ10 HZ11]
  · isplitl [HSc]; · iexact HSc
    isplitl [HzB]; · iexact HzB
    isplitl [HY0 HY1 HY2 HY3 HY4 HY5 HY6 HY7 HY8 HY9 HY10 HY11]
    · isplitl [HY0]; · iexact HY0
      isplitl [HY1]; · iexact HY1
      isplitl [HY2]; · iexact HY2
      isplitl [HY3]; · iexact HY3
      isplitl [HY4]; · iexact HY4
      isplitl [HY5]; · iexact HY5
      isplitl [HY6]; · iexact HY6
      isplitl [HY7]; · iexact HY7
      isplitl [HY8]; · iexact HY8
      isplitl [HY9]; · iexact HY9
      isplitl [HY10]; · iexact HY10
      iexact HY11
    isplitl [HZ0]; · iexact HZ0
    isplitl [HZ1]; · iexact HZ1
    isplitl [HZ2]; · iexact HZ2
    isplitl [HZ3]; · iexact HZ3
    isplitl [HZ4]; · iexact HZ4
    isplitl [HZ5]; · iexact HZ5
    isplitl [HZ6]; · iexact HZ6
    isplitl [HZ7]; · iexact HZ7
    isplitl [HZ8]; · iexact HZ8
    isplitl [HZ9]; · iexact HZ9
    isplitl [HZ10]; · iexact HZ10
    iexact HZ11
  isplitl [HOw]
  · unfold ow; icases HOw with ⟨%W', HO⟩
    iexists W'
    isplitr; · ipureintro; exact fun _ _ => Or.inl trivial
    unfold Ow; iexact HO
  isplitl [HX]
  · iexists _; isplitr; · (ipureintro; rfl)
    unfold xP; iexact HX
  isplitl [HWQ]
  · iexists _; isplitr; · (ipureintro; rfl)
    unfold wqP; iexact HWQ
  isplitl [HK]
  · iexists _; isplitr; · (ipureintro; rfl)
    unfold kP; iexact HK
  isplitl [HV]
  · iexists _; isplitr; · (ipureintro; rfl)
    unfold vP; iexact HV
  isplitl [HWO]
  · iexists _; isplitr; · (ipureintro; rfl)
    unfold woP; iexact HWO
  ihave HF := (out_done m c) $$ [HO0 HO1]
  · isplitl [HO0]; · iexact HO0
    iexact HO1
  iexists _; isplitr; · (ipureintro; rfl)
  iexact HF

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

end Cert.RingProof
-- ==== Proof.Run.lean ====
/-
  The launch: the protocol's ghost state made and dealt around the ring, and the run of the whole program.
-/
module

public import proofs.«01_k».proof.Proof.Body
public import Idealize.ShloMosaic.Lib.Pipeline.Launch
public import Idealize.ShloMosaic.Lib.Pipeline.Kit
public import Idealize.ShloMosaic.Lib.Tactic
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Separating conjunctions over a set in two parts -/

theorem bigSep_insert'' {I : Type} [DecidableEq I] {s : Finset I} {i : I} (h : i ∉ s) (Φ : I → sProp 𝕄) :
    bigSep (insert i s) Φ = iprop(Φ i ∗ bigSep s Φ) := BI.bigSep_insert h
theorem bigSep_join {I : Type} [DecidableEq I] {s t : Finset I} (h : Disjoint s t) (Φ : I → sProp 𝕄) :
    bigSep (s ∪ t) Φ = iprop(bigSep s Φ ∗ bigSep t Φ) := BI.bigSep_union h
theorem bigSep_cut {I : Type} [DecidableEq I] {s t : Finset I} (h : t ⊆ s) (Φ : I → sProp 𝕄) :
    bigSep s Φ = iprop(bigSep t Φ ∗ bigSep (s \ t) Φ) := BI.bigSep_sdiff_split h

/-! ## The cells, listed -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

theorem kcell_bar (c : Dev nD) : kcell (c, 0) = barCell c := rfl
theorem kcell_send (c : Dev nD) (k : Fin 12) : kcell (c, sIx k) = sendCell c k := by unfold kcell; rw [csem_send]
theorem kcell_recv (c : Dev nD) (k : Fin 12) : kcell (c, rIx k) = recvCell c k := by unfold kcell; rw [csem_recv]

def sEmb : Fin 12 ↪ Fin 25 := ⟨sIx, by decide⟩
def rEmb : Fin 12 ↪ Fin 25 := ⟨rIx, by decide⟩

/-- A separating conjunction over a device's cells: its barrier's, its send ones', its receive ones'. -/
theorem bigSep_fin25 (Φ : Fin 25 → sProp 𝕄) :
    bigSep Finset.univ Φ = iprop(Φ 0 ∗ (bigSep Finset.univ fun k => Φ (sIx k)) ∗ bigSep Finset.univ fun k => Φ (rIx k)) := by
  rw [show (Finset.univ : Finset (Fin 25)) = insert 0 (Finset.univ.map sEmb ∪ Finset.univ.map rEmb) from by decide,
    bigSep_insert'' (by decide), bigSep_join (by decide), bigSep_map, bigSep_map]
  rfl
theorem bigSep_cells (Ψ : GSem nD τ sig → sProp 𝕄) (c : Dev nD) :
    (bigSep Finset.univ fun k : Fin 25 => Ψ (kcell (c, k)))
      = iprop(Ψ (barCell c) ∗ (bigSep Finset.univ fun k => Ψ (sendCell c k)) ∗ bigSep Finset.univ fun k => Ψ (recvCell c k)) := by
  rw [bigSep_fin25, bigSep_congr fun k _ => congrArg Ψ (kcell_send c k), bigSep_congr fun k _ => congrArg Ψ (kcell_recv c k), kcell_bar]

def loEmb : Fin 12 ↪ Fin 24 := ⟨fun k => ⟨k, by omega⟩, by decide⟩
def hiEmb : Fin 12 ↪ Fin 24 := ⟨fun k => ⟨12 + k, by omega⟩, by decide⟩
theorem osem_lo (k : Fin 12) : osem (loEmb k) = .dma (sS k) := by revert k; decide
theorem osem_hi (k : Fin 12) : osem (hiEmb k) = .dma (rS k) := by revert k; decide

/-- The kernel's own semaphores at zero; the launch's one unscoped semaphore. -/
theorem ownSems0_eq (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ bigSep Finset.univ fun k => semVal (recvCell c k) 0) := by
  unfold Pipeline.ownSems0
  rw [show (Finset.univ : Finset (Fin 24)) = Finset.univ.map loEmb ∪ Finset.univ.map hiEmb from by decide,
    bigSep_join (by decide), bigSep_map, bigSep_map, bigSep_congr fun k _ => by rw [osem_lo], bigSep_congr (s := Finset.univ) (Φ := fun k => semVal ((c : Thread nD τ), osem (hiEmb k)) 0) fun k _ => by rw [osem_hi]]
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The launch element -/

def ringCells : Finset (GSem nD τ sig) := Finset.univ.map ⟨kcell, kcell_injective⟩

/-- The duties of a device's own cells: one each, the barrier's second. -/
abbrev tokOf (cj : Dev nD × (Fin 25 ⊕ Unit)) : GSem nD τ sig × ℕ × Bool := match cj.2 with
  | .inl i => (kcell (cj.1, i), 0, false)
  | .inr _ => (barCell cj.1, 0, true)
theorem tokOf_injective : Function.Injective (tokOf : Dev nD × (Fin 25 ⊕ Unit) → GSem nD τ sig × ℕ × Bool) := by
  rintro ⟨c, i | i⟩ ⟨c', j | j⟩ h
  · have := kcell_injective (congrArg Prod.fst h)
    rw [Prod.mk.injEq] at this
    have h1 : c = c' := this.1
    rw [h1, this.2]
  · have h2 : false = true := congrArg (fun x : GSem nD τ sig × ℕ × Bool => x.2.2) h
    exact absurd h2 (by decide)
  · have h2 : true = false := congrArg (fun x : GSem nD τ sig × ℕ × Bool => x.2.2) h
    exact absurd h2 (by decide)
  · have h1 : c = c' := congrArg (fun x : GSem nD τ sig × ℕ × Bool => x.1.1.1) h
    rw [h1]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ (bigSep Finset.univ fun k => dutyTok ER (sendCell c k) 0 false) ∗ bigSep Finset.univ fun k => dutyTok ER (recvCell c k) 0 false)
    ∗ dutyTok ER (barCell c) 0 true)

/-- What the launch element deals device `c`; what the global step makes of it. -/
def Gh (c : Dev nD) : sProp 𝕄 :=
  iprop((bigSep Finset.univ fun k : Fin 25 => roundState ER (ringRd m) (kcell (c, k)) 0)
    ∗ (bigSep Finset.univ fun k : Fin 25 => iprop(atPos ER (kcell (c, k)) 0 ∅ 0 ∗ reached ER (kcell (c, k)) 0)) ∗ toks c)
def Gh' (c : Dev nD) : sProp 𝕄 := iprop(∃ K, ghost m K c)

theorem fund_ring : BI.own (ER (initOf ringCells ringToks)) ⊢ (|==> bigSep Finset.univ (Gh m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum]
    unfold toks
    rw [← bigSep_cells (fun g => (dutyTok ER g 0 false : sProp 𝕄)) c]
    congr 1
    rw [show (Finset.univ : Finset Unit) = {()} from rfl, bigSep_singleton]
    rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Gh; simp only [bigSep_sep']
  isplitl [Hst']; · iexact Hst'
  isplitl [Hat' Hr']
  · isplitl [Hat'] <;> iassumption
  iexact Htok'

/-! ## The invariants, and the tokens dealt around the ring -/

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [ownSems0_eq, unscopedSems0_eq, bigSep_cells (fun g => (semVal g 0 : sProp 𝕄)) c]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ Gh m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold Gh
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays; with its positions, what of the ghost state is its alone. -/
def payToks (c : Dev nD) : sProp 𝕄 :=
  iprop(dutyTok ER (barCell (prv c)) 0 true ∗ dutyTok ER (barCell (nxt c)) 0 false
    ∗ (bigSep Finset.univ fun k => dutyTok ER (sendCell c k) 0 false) ∗ bigSep Finset.univ fun k => dutyTok ER (recvCell (tgt k c) k) 0 false)
def linear (c : Dev nD) : sProp 𝕄 :=
  iprop((bigSep Finset.univ fun k : Fin 25 => atPos ER (kcell (c, k)) 0 ∅ 0) ∗ payToks c)

theorem ghost_intro (K : Dev nD × Fin 25 → ℕ) (c : Dev nD) : iprop(records m K ∗ linear c) ⊢ Gh' m c := by
  unfold linear payToks Gh' ghost xfer
  rw [bigSep_cells (fun g => (atPos ER g 0 ∅ 0 : sProp 𝕄)) c, bigSep_sep', bigSep_sep']
  iintro ⟨#HR, ⟨HaB, HaS, HaV⟩, HtP, HtN, HtS, HtV⟩
  iexists K
  isplitr; · iexact HR
  isplitl [HaB]; · iexact HaB
  isplitl [HtP]; · iexact HtP
  isplitl [HtN]; · iexact HtN
  isplitl [HtS HtV HaS]
  · isplitl [HtS]; · iexact HtS
    isplitl [HtV] <;> iassumption
  iexact HaV

/-- The devices as transfer `k` permutes them. -/
def route (k : Fin 12) : Dev nD ≃ Dev nD := ⟨tgt k, orig k, orig_tgt k, tgt_orig k⟩

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    bigSep_univ_comm (fun (c : Dev nD) (k : Fin 12) => (dutyTok ER (recvCell c k) 0 false : sProp 𝕄)),
    bigSep_congr (s := Finset.univ) fun (k : Fin 12) _ => bigSep_univ_equiv (route k) (fun c : Dev nD => (dutyTok ER (recvCell c k) 0 false : sProp 𝕄)),
    bigSep_univ_comm (fun (k : Fin 12) (c : Dev nD) => (dutyTok ER (recvCell (route k c) k) 0 false : sProp 𝕄))]
  iintro ⟨⟨H1, H2, H3⟩, H4⟩
  isplitl [H4]; · iexact H4
  isplitl [H1]; · iexact H1
  isplitl [H2]; · iexact H2
  iexact H3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (Gh' m) := by
  rw [bigSep_sep', bigSep_sep', ← bigSep_univ_prod (fun ck : Dev nD × Fin 25 => iprop(∃ κ : ℕ, cellInv ER (ringRd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 25 => (atPos ER (kcell (c, k)) 0 ∅ 0 : sProp 𝕄)) payToks).symm)
    isplitl [Hat]; · iexact Hat
    iexact Htk

/-- Every device's own and unscoped semaphores at once become the cells' invariants. -/
theorem glob : (bigSep Finset.univ fun c => iprop(Pipeline.ownSems0 (Ix := Unit) (Name := ℕ) (U := UU) (Lvl := ℕ) (Val := Elt F) (τ := τ) osem c ∗ unscopedSems0 c ∗ Gh m c) : sProp 𝕄)
    ⊢ |={Set.univ}=> bigSep Finset.univ (Gh' m) :=
  ((bigSep_mono fun c _ => core_alloc m c).trans (bigSep_fupd _ _)).trans (BI.fupd_mono (regroup m))

/-! ## The credit the launch gives -/

theorem bar_eq_iff {a b : Dev nD} : Iff (barCell a = barCell b) (a = b) :=
  ⟨fun h => Fin.ext (congrArg (fun g : GSem nD τ sig => g.1.1.val) h), fun h => h ▸ rfl⟩
theorem rS_injective : Function.Injective rS := by decide
theorem recv_eq_iff {a b : Dev nD} {j k : Fin 12} : Iff (recvCell a j = recvCell b k) (a = b ∧ j = k) :=
  ⟨fun h => ⟨Fin.ext (congrArg (fun g : GSem nD τ sig => g.1.1.val) h), rS_injective (SemLoc.dma.inj (congrArg Prod.snd h))⟩,
    fun h => by rw [h.1, h.2]⟩
theorem recv_ne_bar (k : Fin 12) : (SemLoc.dma (rS k) : SemLoc sig) ≠ .reg barS := fun h => by cases h

theorem Ow_bar (d c : Dev nD) (l : List (Fin 12)) : Ow d l (barCell c) () = 0 := by
  by_contra h
  obtain ⟨k, -, e⟩ := Ow_pos (Nat.pos_of_ne_zero h)
  exact recv_ne_bar k (congrArg Prod.snd e).symm

theorem Ow_recv (d c : Dev nD) (k : Fin 12) (l : List (Fin 12)) : Ow d l (recvCell c k) () = if d = orig k c then l.count k * N else 0 := by
  induction l with
  | nil => show 0 = _; rw [List.count_nil, Nat.zero_mul, ite_self]
  | cons j l ih =>
    unfold Ow
    rw [Pi.add_apply, Finsupp.add_apply, ih, tallyAt_apply]
    by_cases hj : j = k
    · subst hj
      rw [List.count_cons_self]
      by_cases hd : d = orig j c
      · rw [if_pos hd, if_pos hd, hd, tgt_orig, if_pos ⟨rfl, rfl⟩, Nat.succ_mul]
      · rw [if_neg hd, if_neg hd, if_neg (fun h => hd (by rw [(recv_eq_iff.mp h.1).1, orig_tgt]))]
    · rw [List.count_cons_of_ne hj, if_neg (c := _ ∧ _) (fun h => hj ((recv_eq_iff.mp h.1).2).symm), Nat.add_zero]

theorem owed_bar (d c : Dev nD) : O₀ d (barCell c) () = (if d = prv c then 1 else 0) + (if d = nxt c then 1 else 0) := by
  unfold O₀ O₁
  rw [Pi.add_apply, Finsupp.add_apply, Pi.add_apply, Finsupp.add_apply, Ow_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

theorem order_count (k : Fin 12) : order.count k = 1 := by revert k; decide

theorem owed_recv (d c : Dev nD) (k : Fin 12) : O₀ d (recvCell c k) () = if d = orig k c then N else 0 := by
  unfold O₀ O₁
  rw [Pi.add_apply, Finsupp.add_apply, Pi.add_apply, Finsupp.add_apply, Ow_recv, order_count, Nat.one_mul,
    tallyAt_ne_cell (fun h => recv_ne_bar k (congrArg Prod.snd h)), tallyAt_ne_cell (fun h => recv_ne_bar k (congrArg Prod.snd h)),
    Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

theorem launch_recv (c : Dev nD) (k : Fin 12) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (orig k c) fun _ => N,
    if_pos (Finset.mem_univ _)]

def recvEmb : Fin 12 ↪ SemLoc sig := ⟨fun k => .dma (rS k), fun _ _ h => rS_injective (SemLoc.dma.inj h)⟩

theorem creds (c : Dev nD) :
    (Pipeline.launchCred O₀ c : sProp 𝕄)
      ⊢ iprop(cred (tallyAt (barCell c) () 2) ∗ bigSep Finset.univ fun k => cred (tallyAt (recvCell c k) () N)) := by
  unfold Pipeline.launchCred
  rw [bigSep_univ_at _ (SemLoc.reg barS), launch_bar]
  refine sep_mono_right ?_
  rw [bigSep_cut (t := Finset.univ.map recvEmb) (fun x hx => by
    obtain ⟨k, -, rfl⟩ := Finset.mem_map.mp hx
    exact Finset.mem_erase.mpr ⟨recv_ne_bar k, Finset.mem_univ _⟩), bigSep_map]
  refine BIBase.Entails.trans sep_elim_left ?_
  exact Entails.of_eq (bigSep_congr fun k _ => congrArg cred (launch_recv c k))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Gh' m c)
      ⊢ |={Set.univ}=> iprop(start m c ∗ emp) := by
  iintro ⟨-, Hlev, Hcr, -, HG⟩
  ihave Hc := (creds (F := F) c) $$ Hcr
  icases Hc with ⟨H1, HN⟩
  imodintro
  unfold start Gh'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨Hr, HzB, HzS, HzV⟩
  isplitl [HzB]; · iexact HzB
  isplitl [HzS HzV]
  · isplitl [HzS] <;> iassumption
  iexists (G m c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters the run ends, every array at its final contents, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := Gh m) (G' := Gh' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array after the run holds what it held. -/
theorem finalA_in (c : Dev nD) (w : Fin cfg0.W) (h : (cfg0.win w).isOut = false) : finalA m ρ c w = m ((cfg0.win w).arr.view.loc (c : Thread nD τ)) :=
  (dats (F := F) m ρ 0 c).arrAt_in w h _

end Cert.RingProof
-- ==== Proof.Frames.lean ====
/-
  The frames of the three programs, and the idealization.
-/
module

public import proofs.«01_k».proof.Proof.Run
public import proofs.«01_k».proof.Defs
public import proofs.«01_k».proof.Proof.Gen.Kernel
public import proofs.«01_k».proof.Proof.Gen.ReferenceIdeal.Run
public import Idealize.ShloMosaic.Lib.Quiescent

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The argument arrays of device `c` after a run whose arrays hold `finalA`. -/
theorem args_of_QC {F : FTy → Type} [FloatOps F] [Named F] (m : (ℓ : Loc nD τ sig) → Buf (Elt F) ℓ) (ρ : Dev nD → PrngReg)
    {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c 0).trans (finalA_in m ρ c 0 rfl), (h c 1).trans (finalA_in m ρ c 1 rfl), (h c 2).trans (finalA_in m ρ c 2 rfl),
    (h c 3).trans (finalA_in m ρ c 3 rfl), (h c 4).trans (finalA_in m ρ c 4 rfl)⟩

theorem frame_ideal : Cert.quiescent_KernelIdeal := fun m ρ _ =>
  (θ_run Cert.KernelIdeal.defs _ _).mono (fun _ h => ⟨args_of_QC m ρ h.1, h.2⟩) (run_main (F := Ideal) m ρ)

/-- Over words a named constant is the word it was written as. -/
local instance : Named Bits where named _ _ {φ} bits := Scalar.ofBits φ bits

/-- The two programs' body tables are the same over words. -/
theorem bodies_eq : Cert.Kernel.defs₀ (F := Bits) = Cert.KernelIdeal.defs₀ (F := Bits) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))
theorem defs_eq : Cert.Kernel.defs (F := Bits) = Cert.KernelIdeal.defs (F := Bits) := congrArg (Pipeline.defs Cert.Kernel.pcfgs) bodies_eq

theorem frame_kernel : Cert.quiescent_Kernel := fun m ρ _ => by
  rw [defs_eq]
  have h := (θ_run (Cert.KernelIdeal.defs (F := Bits)) _ _).mono (fun _ h => And.intro (fun c => args_of_QC (F := Bits) m ρ h.1 c) h.2) (run_main (F := Bits) m ρ)
  exact h

theorem frame_ref : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

theorem preserves : Cert.preserves_Kernel_KernelIdeal :=
  ⟨IdealRules.named_const.statement Cert.KernelIdeal.κ "qscale" .bf16 0x3E39#16 (((1 / 8) * (Real.log 2)⁻¹ : ℝ) : EReal) rfl,
    IdealRules.named_const.statement Cert.KernelIdeal.κ "masked" .f32 0xCE6E6B28#32 ⊥ rfl⟩

end Cert.RingProof
-- ==== Proof.Softmax.lean ====
/-
  The softmax over a set of keys, in the two ways it is computed: powers of two of scaled scores, summed and divided out
  after the product with the values; and exponentials of scores less their greatest, divided by their sum before it.
-/
module

public import Idealize.ShloMosaic.PureOps.Ideal
public import Idealize.ShloMosaic.Lib.Pointwise

@[expose] public section

noncomputable section

namespace Cert.RingProof

open Idealize.ShloMosaic

/-! ## Sums of extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor is taken into a sum. -/
theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A sum over 512 keys whose terms past the first 256 are zero. -/
theorem sum_first_half {M : Type} [AddCommMonoid M] (f : Fin 512 → M) (h : ∀ j : Fin 512, 256 ≤ (j : ℕ) → f j = 0) :
    ∑ j : Fin 512, f j = ∑ j : Fin 256, f ⟨j, by omega⟩ := by
  have e := Fin.sum_univ_add (a := 256) (b := 256) (fun j => f j)
  rw [show (∑ j : Fin 512, f j) = ∑ j : Fin (256 + 256), f j from rfl, e]
  rw [Finset.sum_eq_zero (s := Finset.univ) (f := fun j : Fin 256 => f (Fin.natAdd 256 j)) fun j _ => h _ (by simp), add_zero]
  rfl

/-! ## Weights -/

variable {n : ℕ} (p : Fin n → Prop) [DecidablePred p] (t : Fin n → ℝ)

/-- The weight of key `j` before division: zero outside the set. -/
def ew (j : Fin n) : ℝ := if p j then Real.exp (t j * (1 / 8)) else 0
/-- The sum of the weights, -/
def den : ℝ := ∑ j, ew p t j
/-- and the weight after division. -/
def soft (j : Fin n) : ℝ := ew p t j / den p t

theorem ew_nonneg (j : Fin n) : 0 ≤ ew p t j := by
  unfold ew; split
  · exact (Real.exp_pos _).le
  · exact le_refl _

theorem den_pos (h : ∃ j, p j) : 0 < den p t := by
  obtain ⟨j, hj⟩ := h
  refine Finset.sum_pos' (fun i _ => ew_nonneg p t i) ⟨j, Finset.mem_univ j, ?_⟩
  unfold ew; rw [if_pos hj]; exact Real.exp_pos _

/-- Division by a nonzero real. -/
theorem div_coe' (x : ℝ) (d : ℝ) (hd : d ≠ 0) : Ideal.div (x : EReal) (d : EReal) = ((x / d : ℝ) : EReal) := by
  unfold Ideal.div
  rw [if_neg (by exact_mod_cast hd), div_eq_mul_inv, EReal.coe_mul, EReal.coe_inv]

/-- A power of two of a score scaled by 1/(8 log 2). -/
theorem exp2_masked (j : Fin n) :
    Ideal.exp2 (if p j then ((t j * ((1 / 8) * (Real.log 2)⁻¹) : ℝ) : EReal) else ⊥) = (ew p t j : EReal) := by
  unfold ew
  split
  · rw [Ideal.exp2_coe]
    congr 1
    show (2 : ℝ) ^ (t j * ((1 / 8) * (Real.log 2)⁻¹)) = _
    have h2 : Real.log 2 ≠ 0 := (Real.log_pos (by norm_num)).ne'
    rw [Real.rpow_def_of_pos (by norm_num)]
    congr 1
    field_simp
  · rfl

/-- Weights times values, summed, then multiplied by the reciprocal of the weights' sum. -/
theorem soft_kernel (v : Fin n → EReal) (h : ∃ j, p j) :
    (∑ j, (ew p t j : EReal) * v j) * Ideal.div 1 (∑ j, (ew p t j : EReal)) = ∑ j, v j * (soft p t j : EReal) := by
  have hd := den_pos p t h
  have e1 : (∑ j, (ew p t j : EReal)) = (den p t : EReal) := (coe_sum _ _).symm
  rw [e1, show (1 : EReal) = ((1 : ℝ) : EReal) from rfl, div_coe' _ _ hd.ne', sum_mul_coe _ _ _ (by positivity)]
  refine Finset.sum_congr rfl fun j _ => ?_
  unfold soft
  rw [mul_comm (ew p t j : EReal), mul_assoc, ← EReal.coe_mul, mul_one_div]

/-- The greatest score of a nonempty set is a real number. -/
theorem max_masked (h : ∃ j, p j) :
    ∃ M : ℝ, Finset.univ.fold max ⊥ (fun j => if p j then ((t j * (1 / 8) : ℝ) : EReal) else ⊥) = (M : EReal) := by
  obtain ⟨j, hj⟩ := h
  have key : Finset.univ.fold max ⊥ (fun j => if p j then ((t j * (1 / 8) : ℝ) : EReal) else ⊥)
      = Finset.univ.sup (fun j => if p j then ((t j * (1 / 8) : ℝ) : EReal) else ⊥) := rfl
  rw [key]
  refine ⟨_, (EReal.coe_toReal (ne_of_lt ?_) (ne_of_gt ?_)).symm⟩
  · rw [Finset.sup_lt_iff (by exact bot_lt_top)]
    intro i _
    split
    · exact EReal.coe_lt_top _
    · exact bot_lt_top
  · refine lt_of_lt_of_le ?_ (Finset.le_sup (Finset.mem_univ j))
    simp only [if_pos hj]
    exact EReal.bot_lt_coe _

/-- The exponential of a score less a real number. -/
theorem exp_masked (M : ℝ) (j : Fin n) :
    Ideal.exp ((if p j then ((t j * (1 / 8) : ℝ) : EReal) else ⊥) - (M : EReal)) = ((ew p t j * Real.exp (-M) : ℝ) : EReal) := by
  unfold ew
  split
  · rw [← EReal.coe_sub]
    show ((Real.exp _ : ℝ) : EReal) = _
    rw [← Real.exp_add, sub_eq_add_neg]
  · rw [zero_mul, sub_eq_add_neg, EReal.bot_add]; rfl

/-- The factor common to every weight divides out. -/
theorem soft_ref (M : ℝ) (h : ∃ j, p j) (j : Fin n) :
    Ideal.div ((ew p t j * Real.exp (-M) : ℝ) : EReal) (∑ i, ((ew p t i * Real.exp (-M) : ℝ) : EReal)) = (soft p t j : EReal) := by
  have hd := den_pos p t h
  have e1 : (∑ i, ((ew p t i * Real.exp (-M) : ℝ) : EReal)) = ((den p t * Real.exp (-M) : ℝ) : EReal) := by
    rw [← coe_sum, den, Finset.sum_mul]
  have hM := Real.exp_pos (-M)
  rw [e1, div_coe' _ _ (mul_pos hd hM).ne']
  unfold soft
  congr 1
  field_simp

end Cert.RingProof
-- ==== Proof.Masks.lean ====
/-
  The masks: query row `i` sees key `j` when `j`'s group of 64 is not after `i`'s.
-/
module

public import proofs.«01_k».proof.Proof.Contents
public import proofs.«01_k».proof.Proof.Gen.ReferenceIdeal
public import Idealize.ShloMosaic.Lib.Pointwise

@[expose] public section

noncomputable section

namespace Cert.RingProof

open Idealize.ShloMosaic

/-- Query row `i` sees key `j`. -/
abbrev sees (i j : ℕ) : Prop := j / 64 ≤ i / 64

theorem cmpi_groups : ∀ a b : Fin 8, IntOp.cmpi .sle (BitVec.ofNat 32 a) (BitVec.ofNat 32 b) = BitVec.ofBool (decide ((a : ℕ) ≤ b)) := by
  decide +kernel

theorem cmpi_sees (i j : Fin 512) :
    IntOp.cmpi .sle (BitVec.ofNat 32 ((j : ℕ) / 64)) (BitVec.ofNat 32 ((i : ℕ) / 64)) = BitVec.ofBool (decide (sees i j)) :=
  cmpi_groups ⟨(j : ℕ) / 64, by omega⟩ ⟨(i : ℕ) / 64, by omega⟩

/-- The kernel's floor division by 64, on one word. -/
def fdK (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

theorem fdK_eq : ∀ j : Fin 512, fdK (BitVec.ofNat 32 j) = BitVec.ofNat 32 ((j : ℕ) / 64) := by decide +kernel

/-- The reference's sign and floor division by 64, on one word. -/
def sgH (w : BitVec 32) : BitVec 32 := if w = 0 then 0 else if w.msb = true then -1 else 1
def fdH (w : BitVec 32) : BitVec 32 :=
  Scalar.select
    (IntOp.andi (IntOp.cmpi .ne (sgH w) (sgH 64#32)) (IntOp.cmpi .ne (IntOp.remsi .host w 64#32) 0#32))
    (IntOp.subi (IntOp.divsi .host w 64#32) 1#32) (IntOp.divsi .host w 64#32)

theorem fdH_eq : ∀ j : Fin 512, fdH (BitVec.ofNat 32 j) = BitVec.ofNat 32 ((j : ℕ) / 64) := by decide +kernel

section
open Cert.KernelIdeal Cert.KernelIdeal.Gen

theorem maskT_apply (i j : Fin 256) : maskT (ix2 i j) = BitVec.ofBool (decide (sees i j)) := by
  have h : maskT (ix2 i j) = IntOp.cmpi .sle (fdK (BitVec.ofNat 32 j)) (fdK (BitVec.ofNat 32 i)) := by
    unfold maskT
    pointwise [k0_pay4, k0_pay1, k0_pay2, k0_pay3]
    rfl
  rw [h]
  have hi := fdK_eq ⟨i, by omega⟩
  have hj := fdK_eq ⟨j, by omega⟩
  dsimp only at hi hj
  rw [hi, hj]
  exact cmpi_sees ⟨i, by omega⟩ ⟨j, by omega⟩

theorem maskB_apply (i : Fin 256) (j : Fin 512) : maskB (ix2 i j) = BitVec.ofBool (decide (sees (256 + i) j)) := by
  have h : maskB (ix2 i j) = IntOp.cmpi .sle (fdK (BitVec.ofNat 32 j)) (fdK (IntOp.addi 256#32 (BitVec.ofNat 32 i))) := by
    unfold maskB
    pointwise [k0_pay8, k0_pay5, k0_pay6, k0_pay7]
    rfl
  have hadd : IntOp.addi 256#32 (BitVec.ofNat 32 i) = BitVec.ofNat 32 (256 + i) := by
    show 256#32 + BitVec.ofNat 32 i = _
    rw [BitVec.ofNat_add]
  rw [h, hadd]
  have hi := fdK_eq ⟨256 + i, by omega⟩
  dsimp only at hi
  rw [hi, fdK_eq j]
  exact cmpi_sees ⟨256 + i, by omega⟩ j
end

section
open Cert.ReferenceIdeal Cert.ReferenceIdeal.Gen

/-- The reference's row of groups, -/
def refGroup : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32)))) (broadcastInDim S512 ![] bcast_S_S512 (constantI S_ 32 0#32))))
    (subi (Host.divsi (iotaInDim S512 32 0) (broadcastInDim S512 ![] bcast_S_S512 (id (constantI S_ 32 64#32)))) (broadcastInDim S512 ![] bcast_S_S512 (constantI S_ 32 1#32)))
    (Host.divsi (iotaInDim S512 32 0) (broadcastInDim S512 ![] bcast_S_S512 (id (constantI S_ 32 64#32))))

/-- its mask, -/
def refMask : IVec S512x512 1 :=
  cmpi .sle (broadcastInDim S512x512 ![0, 1] bcast_S1x512_S512x512_0_1 (broadcastInDim S1x512 ![1] bcast_S512_S1x512_1 refGroup))
    (broadcastInDim S512x512 ![0, 1] bcast_S512x1_S512x512_0_1 (broadcastInDim S512x1 ![0] bcast_S512_S512x1_0 refGroup))

/-- and the rows that see some key. -/
def refKeep : IVec S512 1 := Host.reduce IntOp.ori refMask (constantI S_ 1 0#1) reducesTo_S512x512_S512_d1 h_S_

theorem refGroup_apply (j : Fin 512) : refGroup (ix1 j) = BitVec.ofNat 32 ((j : ℕ) / 64) := by
  rw [← fdH_eq j]
  unfold refGroup
  pointwise
  rfl

theorem refMask_apply (i j : Fin 512) : refMask (ix2 i j) = BitVec.ofBool (decide (sees i j)) := by
  rw [← cmpi_sees i j]
  unfold refMask
  pointwise
  rw [refGroup_apply, refGroup_apply]

theorem refKeep_apply (i : Fin 512) : refKeep (ix1 i) = 1#1 := by
  unfold refKeep
  pointwise
  have hi : refMask (ix2 i i) = 1#1 := by
    rw [refMask_apply]
    show BitVec.ofBool (decide ((i : ℕ) / 64 ≤ (i : ℕ) / 64)) = 1#1
    rw [decide_eq_true (le_refl _)]; rfl
  have h1 : ∀ b : BitVec 1, IntOp.ori 1#1 b = 1#1 := by decide
  rw [← Finset.insert_erase (Finset.mem_univ i), Finset.fold_insert (Finset.notMem_erase i _)]
  show IntOp.ori (refMask (ix2 i i)) _ = 1#1
  rw [hi, h1]
end

end Cert.RingProof
-- ==== Proof.Blocks.lean ====
/-
  One block of attention, at the ideal values: each element is the weighted sum of the values of the keys its row sees.
-/
module

public import proofs.«01_k».proof.Proof.Softmax
public import proofs.«01_k».proof.Proof.Masks

@[expose] public section

noncomputable section

namespace Cert.RingProof

open Cert.KernelIdeal Cert.KernelIdeal.Gen
open Idealize.ShloMosaic

/-- The factor of the query weights: 1/8 for the scores and 1/log 2 for powers of two. -/
abbrev qs : ℝ := (1 / 8) * (Real.log 2)⁻¹

theorem named_masked : Named.named (F := Ideal) (φ := .f32) κ "masked" 0xCE6E6B28#32 = (⊥ : EReal) :=
  IdealRules.named_const.ideal_named_scalar _ _ _ _ rfl
theorem named_qscale : Named.named (F := Ideal) (φ := .bf16) κ "qscale" 0x3E39#16 = ((qs : ℝ) : EReal) :=
  IdealRules.named_const.ideal_named_scalar _ _ _ _ rfl

theorem select_ofBool {α : Type} (p : Prop) [Decidable p] (a b : α) : Scalar.select (BitVec.ofBool (decide p)) a b = if p then a else b := by
  by_cases h : p
  · rw [if_pos h, decide_eq_true h]; rfl
  · rw [if_neg h, decide_eq_false h]; rfl

theorem sees_self (i : Fin 512) : ∃ j : Fin 512, sees i j := ⟨i, le_refl _⟩

/-! ## A row of the upper half against the first 256 keys -/

theorem ew_top (t : Fin 512 → ℝ) (r : Fin 256) (j : Fin 256) :
    ew (fun j : Fin 256 => sees r j) (fun j => t ⟨j, by omega⟩) j = ew (fun j : Fin 512 => sees r j) t ⟨j, by omega⟩ := rfl

theorem den_top (t : Fin 512 → ℝ) (r : Fin 256) :
    den (fun j : Fin 256 => sees r j) (fun j => t ⟨j, by omega⟩) = den (fun j : Fin 512 => sees r j) t := by
  unfold den
  rw [sum_first_half (fun j => ew (fun j : Fin 512 => sees r j) t j)]
  · rfl
  · intro j hj
    unfold ew
    refine if_neg fun h => ?_
    have h' : (j : ℕ) / 64 ≤ (r : ℕ) / 64 := h
    have := r.2
    omega

theorem soft_top (t : Fin 512 → ℝ) (r : Fin 256) (j : Fin 256) :
    soft (fun j : Fin 256 => sees r j) (fun j => t ⟨j, by omega⟩) j = soft (fun j : Fin 512 => sees r j) t ⟨j, by omega⟩ := by
  unfold soft
  rw [den_top, ew_top]

theorem sum_soft_top (t : Fin 512 → ℝ) (r : Fin 256) (v : Fin 512 → EReal) :
    ∑ j : Fin 256, v ⟨j, by omega⟩ * (soft (fun j : Fin 256 => sees r j) (fun j => t ⟨j, by omega⟩) j : EReal)
      = ∑ j : Fin 512, v j * (soft (fun j : Fin 512 => sees r j) t j : EReal) := by
  rw [sum_first_half (fun j => v j * (soft (fun j : Fin 512 => sees r j) t j : EReal))]
  · exact Finset.sum_congr rfl fun j _ => by rw [soft_top]
  · intro j hj
    have : soft (fun j : Fin 512 => sees r j) t j = 0 := by
      unfold soft ew
      rw [if_neg fun h => ?_, zero_div]
      have h' : (j : ℕ) / 64 ≤ (r : ℕ) / 64 := h
      have := r.2
      omega
    rw [this, EReal.coe_zero, mul_zero]

/-! ## The two blocks -/

variable (q k v : FVec Ideal S512x64 .bf16) (t : Fin 512 → Fin 512 → ℝ)
  (hs : ∀ i j : Fin 512, (∑ e : Fin 64, q (ix2 i e) * k (ix2 j e) : EReal) = ((t i j * qs : ℝ) : EReal))

include hs in
theorem attTop_apply (r : Fin 256) (d : Fin 64) :
    attTop maskT q k v (ix4 0 0 r d) = (∑ j : Fin 512, v (ix2 j d) * (soft (fun j : Fin 512 => sees r j) (t ⟨r, by omega⟩) j : EReal) : EReal) := by
  have he : ∀ j : Fin 256, FloatOps.exp2 (F := Ideal) (φ := .f32) (Scalar.select (maskT (ix2 r j))
      (∑ e : Fin 64, q (ix2 ⟨r, by omega⟩ e) * k (ix2 ⟨j, by omega⟩ e) : EReal) (Named.named κ "masked" 0xCE6E6B28#32))
        = (ew (fun j : Fin 256 => sees r j) (fun j => t ⟨r, by omega⟩ ⟨j, by omega⟩) j : EReal) := fun j => by
    rw [maskT_apply, select_ofBool, hs, named_masked]
    exact exp2_masked (fun j : Fin 256 => sees r j) (fun j => t ⟨r, by omega⟩ ⟨j, by omega⟩) j
  unfold attTop
  pointwise
  refine Eq.trans ?_ (sum_soft_top (t ⟨r, by omega⟩) r (fun j => v (ix2 j d)))
  refine Eq.trans ?_ (soft_kernel (fun j : Fin 256 => sees r j) (fun j => t ⟨r, by omega⟩ ⟨j, by omega⟩) (fun j => v (ix2 ⟨j, by omega⟩ d)) ⟨r, le_refl _⟩)
  refine congrArg₂ (fun a b : EReal => a * Ideal.div 1 b) ?_ ?_
  · exact Finset.sum_congr rfl fun j _ => congrArg (fun a : EReal => a * v (ix2 ⟨j, by omega⟩ d)) (he j)
  · exact Finset.sum_congr rfl fun j _ => he j

include hs in
theorem attBot_apply (r : Fin 256) (d : Fin 64) :
    attBot maskB q k v (ix4 0 0 r d)
      = (∑ j : Fin 512, v (ix2 j d) * (soft (fun j : Fin 512 => sees (256 + r) j) (t ⟨256 + r, by omega⟩) j : EReal) : EReal) := by
  have he : ∀ j : Fin 512, FloatOps.exp2 (F := Ideal) (φ := .f32) (Scalar.select (maskB (ix2 r j))
      (∑ e : Fin 64, q (ix2 ⟨256 + r, by omega⟩ e) * k (ix2 j e) : EReal) (Named.named κ "masked" 0xCE6E6B28#32))
        = (ew (fun j : Fin 512 => sees (256 + r) j) (t ⟨256 + r, by omega⟩) j : EReal) := fun j => by
    rw [maskB_apply, select_ofBool, hs, named_masked]
    exact exp2_masked (fun j : Fin 512 => sees (256 + r) j) (t ⟨256 + r, by omega⟩) j
  unfold attBot
  pointwise
  refine Eq.trans ?_ (soft_kernel (fun j : Fin 512 => sees (256 + r) j) (t ⟨256 + r, by omega⟩) (fun j => v (ix2 j d)) (sees_self ⟨256 + r, by omega⟩))
  refine congrArg₂ (fun a b : EReal => a * Ideal.div 1 b) ?_ ?_
  · exact Finset.sum_congr rfl fun j _ => congrArg (fun a : EReal => a * v (ix2 j d)) (he j)
  · exact Finset.sum_congr rfl fun j _ => he j

end Cert.RingProof
-- ==== Proof.Args.lean ====
/-
  What the kernel's loads hold, read at an index of the argument arrays.
-/
module

public import proofs.«01_k».proof.Proof.Blocks
public import proofs.«01_k».proof.Proof.Out

@[expose] public section

noncomputable section

namespace Cert.RingProof

open Cert.KernelIdeal Cert.KernelIdeal.Gen
open Idealize.ShloMosaic
open Idealize.ShloMosaic.TcCoe

variable (m : (ℓ : Loc nD τ sig) → Buf (Elt Ideal) ℓ) (c : Dev nD)

/-! ## A staging buffer holds the whole array -/

theorem xC_eq : xC m c = m ((c : Thread nD τ).loc main_arg0) := by
  unfold xC
  have hz : ∀ a : Fin 3, win0_0.index (0 : Fin 1) a * win0_0.size a = 0 := by decide +kernel
  refine funext fun i : S2x512x768.Idx => ?_
  rw [View.read_apply]
  show (m ((c : Thread nD τ).loc main_arg0) : S2x512x768.Idx → EReal) ((win0_0.rect (0 : Fin 1)).emb i : S2x512x768.Idx) = (m ((c : Thread nD τ).loc main_arg0) : S2x512x768.Idx → EReal) i
  refine congrArg _ (funext fun a => Fin.ext ?_)
  exact (unit_emb_val _ _ _ i a).trans ((congrArg (· + (i a : ℕ)) (hz a)).trans (Nat.zero_add _))
theorem wqC_eq : wqC m c = m ((c : Thread nD τ).loc main_arg1) := by
  unfold wqC
  have hz : ∀ a : Fin 2, win0_1.index (0 : Fin 1) a * win0_1.size a = 0 := by decide +kernel
  refine funext fun i : S768x2048.Idx => ?_
  rw [View.read_apply]
  show (m ((c : Thread nD τ).loc main_arg1) : S768x2048.Idx → EReal) ((win0_1.rect (0 : Fin 1)).emb i : S768x2048.Idx) = (m ((c : Thread nD τ).loc main_arg1) : S768x2048.Idx → EReal) i
  refine congrArg _ (funext fun a => Fin.ext ?_)
  exact (unit_emb_val _ _ _ i a).trans ((congrArg (· + (i a : ℕ)) (hz a)).trans (Nat.zero_add _))
theorem kC_eq : kC m c = m ((c : Thread nD τ).loc main_arg2) := by
  unfold kC
  have hz : ∀ a : Fin 4, win0_2.index (0 : Fin 1) a * win0_2.size a = 0 := by decide +kernel
  refine funext fun i : S2x512x8x64.Idx => ?_
  rw [View.read_apply]
  show (m ((c : Thread nD τ).loc main_arg2) : S2x512x8x64.Idx → EReal) ((win0_2.rect (0 : Fin 1)).emb i : S2x512x8x64.Idx) = (m ((c : Thread nD τ).loc main_arg2) : S2x512x8x64.Idx → EReal) i
  refine congrArg _ (funext fun a => Fin.ext ?_)
  exact (unit_emb_val _ _ _ i a).trans ((congrArg (· + (i a : ℕ)) (hz a)).trans (Nat.zero_add _))
theorem vC_eq : vC m c = m ((c : Thread nD τ).loc main_arg3) := by
  unfold vC
  have hz : ∀ a : Fin 4, win0_3.index (0 : Fin 1) a * win0_3.size a = 0 := by decide +kernel
  refine funext fun i : S2x512x8x64.Idx => ?_
  rw [View.read_apply]
  show (m ((c : Thread nD τ).loc main_arg3) : S2x512x8x64.Idx → EReal) ((win0_3.rect (0 : Fin 1)).emb i : S2x512x8x64.Idx) = (m ((c : Thread nD τ).loc main_arg3) : S2x512x8x64.Idx → EReal) i
  refine congrArg _ (funext fun a => Fin.ext ?_)
  exact (unit_emb_val _ _ _ i a).trans ((congrArg (· + (i a : ℕ)) (hz a)).trans (Nat.zero_add _))
theorem woC_eq : woC m c = m ((c : Thread nD τ).loc main_arg4) := by
  unfold woC
  have hz : ∀ a : Fin 2, win0_4.index (0 : Fin 1) a * win0_4.size a = 0 := by decide +kernel
  refine funext fun i : S2048x768.Idx => ?_
  rw [View.read_apply]
  show (m ((c : Thread nD τ).loc main_arg4) : S2048x768.Idx → EReal) ((win0_4.rect (0 : Fin 1)).emb i : S2048x768.Idx) = (m ((c : Thread nD τ).loc main_arg4) : S2048x768.Idx → EReal) i
  refine congrArg _ (funext fun a => Fin.ext ?_)
  exact (unit_emb_val _ _ _ i a).trans ((congrArg (· + (i a : ℕ)) (hz a)).trans (Nat.zero_add _))

/-! ## The arrays of device `c` -/

/-- The five argument arrays of device `c`. -/
abbrev aX : S2x512x768.Idx → EReal := m ((c : Thread nD τ).loc main_arg0)
abbrev aWq : S768x2048.Idx → EReal := m ((c : Thread nD τ).loc main_arg1)
abbrev aK : S2x512x8x64.Idx → EReal := m ((c : Thread nD τ).loc main_arg2)
abbrev aV : S2x512x8x64.Idx → EReal := m ((c : Thread nD τ).loc main_arg3)
abbrev aWo : S2048x768.Idx → EReal := m ((c : Thread nD τ).loc main_arg4)

/-! ## The loads -/

theorem headQ_apply (h : Fin 8) (q : FVec Ideal S512x512 .f32) (i : Fin 512) (d : Fin 64) : headQ h q (ix2 i d) = q (ix2 i ⟨64 * h + d, by omega⟩) := by
  unfold headQ
  pointwise

theorem headK_apply (k : Vec Ideal S1x512x1x64 .bf16) (i : Fin 512) (d : Fin 64) : headK k (ix2 i d) = k (ix4 0 i 0 d) := by
  unfold headK
  pointwise

theorem kL_apply (b : Fin 2) (h : Fin 8) (i : Fin 512) (d : Fin 64) : headK (kL m c b h) (ix2 i d) = aK m c (ix4 b i h d) := by
  rw [headK_apply]
  unfold kL
  rw [kC_eq]
  pointwise [View.readAt_eq_ld]
  rfl
theorem vL_apply (b : Fin 2) (h : Fin 8) (i : Fin 512) (d : Fin 64) : headK (vL m c b h) (ix2 i d) = aV m c (ix4 b i h d) := by
  rw [headK_apply]
  unfold vL
  rw [vC_eq]
  pointwise [View.readAt_eq_ld]
  rfl

theorem dev_lt (c : Dev nD) : (c : ℕ) < 4 := c.2

theorem qB_apply (b : Fin 2) (i l : Fin 512) :
    qB m c b (ix2 i l) = (∑ e : Fin 768, aX m c (ix3 b i e) * (aWq m c (ix2 e ⟨512 * c + l, by have := dev_lt c; omega⟩) * (qs : EReal)) : EReal) := by
  unfold qB wqS xL wqL
  rw [xC_eq, wqC_eq]
  pointwise [k0_pay9, k0_pay10, View.readAt_eq_ld]
  refine Finset.sum_congr rfl fun e _ => ?_
  rw [named_qscale]
  refine congrArg (fun b : EReal => aX m c (ix3 _ i e) * (b * (qs : EReal))) ?_
  refine congrArg (aWq m c) (congrArg₂ ix2 (Fin.ext ?_) (Fin.ext ?_))
  · show k0_off1 c 0 + (e : ℕ) = e
    rw [k0_off1_eq]; exact Nat.zero_add _
  · show k0_off1 c 1 + (l : ℕ) = 512 * c + l
    rw [k0_off1_eq]; rfl

theorem woL_apply (off : Fin 2 → ℕ) (h : ∀ a, off a + S512x768.size a ≤ S2048x768.size a) (o : ℕ) (ho : off = ![o, 0]) (l : Fin 512) (n : Fin 768) :
    woL m c off h (ix2 l n) = aWo m c (ix2 ⟨o + l, by subst ho; have : o + 512 ≤ 2048 := h 0; omega⟩ n) := by
  subst ho
  unfold woL
  rw [woC_eq]
  pointwise [View.readAt_eq_ld]
  refine congrArg (aWo m c) (congrArg₂ ix2 (Fin.ext ?_) (Fin.ext ?_))
  · rfl
  · rfl

end Cert.RingProof
-- ==== Proof.Spec.lean ====
/-
  The attention layer as plain sums: scores, weighted sums of the values, the output projection.
-/
module

public import proofs.«01_k».proof.Proof.Softmax
public import proofs.«01_k».proof.Proof.Masks

@[expose] public section

noncomputable section

namespace Cert.RingProof

open Idealize.ShloMosaic

variable (x : (⟨3, ![2, 512, 768]⟩ : Shape).Idx → ℝ) (w : (⟨2, ![768, 2048]⟩ : Shape).Idx → ℝ) (k : (⟨4, ![2, 512, 32, 64]⟩ : Shape).Idx → ℝ)
  (v : (⟨4, ![2, 512, 32, 64]⟩ : Shape).Idx → EReal) (wo : (⟨2, ![2048, 768]⟩ : Shape).Idx → EReal)

/-- Entry `d` of head `H` of query `i`, and its score against key `j`, unscaled. -/
def query (b : Fin 2) (H : Fin 32) (i : Fin 512) (d : Fin 64) : ℝ := ∑ e : Fin 768, x (ix3 b i e) * w (ix2 e ⟨64 * H + d, by omega⟩)
def score (b : Fin 2) (H : Fin 32) (i j : Fin 512) : ℝ := ∑ d : Fin 64, query x w b H i d * k (ix4 b j H d)

/-- Entry `d` of head `H` of row `i` of the attention's result, -/
def ctx (b : Fin 2) (H : Fin 32) (i : Fin 512) (d : Fin 64) : EReal :=
  ∑ j : Fin 512, v (ix4 b j H d) * (soft (fun j : Fin 512 => sees i j) (score x w k b H i) j : EReal)

/-- and the layer's output. -/
def layer (b : Fin 2) (i : Fin 512) (n : Fin 768) : EReal :=
  ∑ L : Fin 2048, ctx x w k v b ⟨(L : ℕ) / 64, by omega⟩ i ⟨(L : ℕ) % 64, by omega⟩ * wo (ix2 L n)

/-- A sum over the 2048 columns, device by device. -/
theorem sum_devices {M : Type} [AddCommMonoid M] (f : Fin 2048 → M) :
    ∑ L : Fin 2048, f L = ∑ d : Fin 4, ∑ l : Fin 512, f ⟨512 * d + l, by omega⟩ := by
  rw [← Fintype.sum_prod_type']
  refine (Fintype.sum_equiv (finProdFinEquiv (m := 4) (n := 512)) _ _ fun p => ?_).symm
  refine congrArg f (Fin.ext ?_)
  show 512 * (p.1 : ℕ) + p.2 = (p.2 : ℕ) + 512 * p.1
  omega

end Cert.RingProof
-- ==== Proof.Heads.lean ====
/-
  The heads a device computes are the heads of the whole layer it owns.
-/
module

public import proofs.«01_k».proof.Proof.Args
public import proofs.«01_k».proof.Proof.Spec

@[expose] public section

noncomputable section

namespace Cert.RingProof

open Cert.KernelIdeal Cert.KernelIdeal.Gen
open Idealize.ShloMosaic
open Idealize.ShloMosaic.TcCoe

/-- Column `l` of device `c` belongs to this head. -/
def headOf (c : Dev nD) (l : Fin 512) : Fin 32 := ⟨8 * c + l / 64, by have := dev_lt c; omega⟩

theorem inBlk_eq (r l : Fin 512) : inBlk r l = ix4 0 0 ⟨(r : ℕ) % 256, by omega⟩ ⟨(l : ℕ) % 64, by omega⟩ := by
  funext a
  fin_cases a <;> rfl

variable (m : (ℓ : Loc nD τ sig) → Buf (Elt Ideal) ℓ)
  (x : (⟨3, ![2, 512, 768]⟩ : Shape).Idx → ℝ) (w : (⟨2, ![768, 2048]⟩ : Shape).Idx → ℝ) (k : (⟨4, ![2, 512, 32, 64]⟩ : Shape).Idx → ℝ)
  (v : (⟨4, ![2, 512, 32, 64]⟩ : Shape).Idx → EReal)

/-- Every device holds the same queries' operands, and its own eight heads of the keys and the values. -/
structure Holds : Prop where
  hx : ∀ (c : Dev nD) i, aX m c i = (x i : EReal)
  hw : ∀ (c : Dev nD) i, aWq m c i = (w i : EReal)
  hk : ∀ (c : Dev nD) (b : Fin 2) (j : Fin 512) (h : Fin 8) (d : Fin 64),
    aK m c (ix4 b j h d) = (k (ix4 b j ⟨8 * c + h, by have := dev_lt c; omega⟩ d) : EReal)
  hv : ∀ (c : Dev nD) (b : Fin 2) (j : Fin 512) (h : Fin 8) (d : Fin 64),
    aV m c (ix4 b j h d) = v (ix4 b j ⟨8 * c + h, by have := dev_lt c; omega⟩ d)

variable {m x w k v} (H : Holds m x w k v)
include H

/-- The scaled queries of a device. -/
theorem qB_eq (c : Dev nD) (b : Fin 2) (h : Fin 8) (i : Fin 512) (d : Fin 64) :
    headQ h (qB m c b) (ix2 i d) = ((query x w b ⟨8 * c + h, by have := dev_lt c; omega⟩ i d * qs : ℝ) : EReal) := by
  rw [headQ_apply, qB_apply, query, Finset.sum_mul, coe_sum]
  refine Finset.sum_congr rfl fun e _ => ?_
  rw [H.hx, H.hw, ← EReal.coe_mul, ← EReal.coe_mul, ← mul_assoc]
  refine congrArg (fun a => ((x (ix3 b i e) * w a * qs : ℝ) : EReal)) (congrArg₂ ix2 rfl (Fin.ext ?_))
  show 512 * (c : ℕ) + (64 * h + d) = 64 * (8 * c + h) + d
  omega

/-- Their scores. -/
theorem scores_eq (c : Dev nD) (b : Fin 2) (h : Fin 8) (i j : Fin 512) :
    (∑ d : Fin 64, headQ h (qB m c b) (ix2 i d) * headK (kL m c b h) (ix2 j d) : EReal)
      = ((score x w k b ⟨8 * c + h, by have := dev_lt c; omega⟩ i j * qs : ℝ) : EReal) := by
  rw [score, Finset.sum_mul, coe_sum]
  refine Finset.sum_congr rfl fun d _ => ?_
  rw [qB_eq H, kL_apply, H.hk, ← EReal.coe_mul, mul_right_comm]

/-- Row `r`, column `l` of device `c`'s attention output. -/
theorem attOf_eq (c : Dev nD) (b : Fin 2) (r l : Fin 512) :
    attOf m c b r l = ctx x w k v b (headOf c l) r ⟨(l : ℕ) % 64, by omega⟩ := by
  unfold attOf
  rw [inBlk_eq]
  have hr := r.2
  have hl := l.2
  obtain h0 | h1 : (r : ℕ) / 256 = 0 ∨ (r : ℕ) / 256 = 1 := by omega
  · rw [show (⟨(r : ℕ) / 256, by omega⟩ : Fin 2) = 0 from Fin.ext h0, blk_top]
    refine (attTop_apply _ _ _ _ (scores_eq H c b _) ⟨(r : ℕ) % 256, by omega⟩ ⟨(l : ℕ) % 64, by omega⟩).trans ?_
    have e : (⟨(r : ℕ) % 256, by omega⟩ : Fin 512) = r := Fin.ext (by show (r : ℕ) % 256 = r; omega)
    have e' : (r : ℕ) % 256 = r := by omega
    refine Finset.sum_congr rfl fun j _ => ?_
    rw [vL_apply, H.hv]
    dsimp only
    simp only [e, e']
    rfl
  · rw [show (⟨(r : ℕ) / 256, by omega⟩ : Fin 2) = 1 from Fin.ext h1, blk_bot]
    refine (attBot_apply _ _ _ _ (scores_eq H c b _) ⟨(r : ℕ) % 256, by omega⟩ ⟨(l : ℕ) % 64, by omega⟩).trans ?_
    have e : (⟨256 + (r : ℕ) % 256, by omega⟩ : Fin 512) = r := Fin.ext (by show 256 + (r : ℕ) % 256 = r; omega)
    have e' : 256 + (r : ℕ) % 256 = r := by omega
    refine Finset.sum_congr rfl fun j _ => ?_
    rw [vL_apply, H.hv]
    dsimp only
    simp only [e, e']
    rfl

end Cert.RingProof
-- ==== Proof.OutVal.lean ====
/-
  The result array: the four devices' heads against the rows of the output weights they meet.
-/
module

public import proofs.«01_k».proof.Proof.Heads
public import proofs.«01_k».proof.Proof.Run

@[expose] public section

noncomputable section

namespace Cert.RingProof

open Cert.KernelIdeal Cert.KernelIdeal.Gen
open Idealize.ShloMosaic
open Idealize.ShloMosaic.TcCoe

section
variable (m : (ℓ : Loc nD τ sig) → Buf (Elt Ideal) ℓ) (c : Dev nD)

theorem sL_apply (s : Fin 4) (b : Fin 2) (r l : Fin 512) : sL m c s b (ix4 0 0 r l) = attOf m (src s c) b r l := by
  unfold sL
  pointwise [View.readAt_eq_ld]
  rfl

/-- What device `d`'s heads add to row `r`, column `n` on device `c`. -/
def part (d : Dev nD) (b : Fin 2) (r : Fin 512) (n : Fin 768) : EReal :=
  ∑ l : Fin 512, attOf m d b r l * aWo m c (ix2 ⟨512 * d + l, by have := dev_lt d; omega⟩ n)

theorem out1_apply (b : Fin 2) (r : Fin 512) (n : Fin 768) : out1 m c b (ix3 0 r n) = part m c c b r n := by
  unfold out1
  pointwise [k0_pay124, k0_pay123]
  refine Finset.sum_congr rfl fun l _ => ?_
  rw [woL_apply m c _ _ _ (k0_off2_eq c)]
  exact congrArg (fun a : EReal => a * _) (sL_apply m c 0 b r l)

theorem out2_apply (b : Fin 2) (r : Fin 512) (n : Fin 768) :
    out2 m c b (ix3 0 r n) = part m c c b r n + part m c (prv c) b r n + part m c (nxt c) b r n := by
  rw [← out1_apply]
  unfold out2
  pointwise [k0_pay128, k0_pay127, k0_pay126]
  refine congrArg₂ (· + ·) (congrArg (fun a : EReal => _ + a) ?_) ?_
  · refine Finset.sum_congr rfl fun l _ => ?_
    rw [woL_apply m c _ _ _ (k0_off3_eq c)]
    exact congrArg (fun a : EReal => a * _) (sL_apply m c 1 b r l)
  · refine Finset.sum_congr rfl fun l _ => ?_
    rw [woL_apply m c (k0_off4 c 1#32) _ _ (k0_off4_eq c 0)]
    exact congrArg (fun a : EReal => a * _) (sL_apply m c 2 b r l)

theorem out3_apply (b : Fin 2) (r : Fin 512) (n : Fin 768) :
    out3 m c b (ix3 0 r n) = part m c c b r n + part m c (prv c) b r n + part m c (nxt c) b r n + part m c (opp c) b r n := by
  rw [← out2_apply]
  unfold out3
  pointwise [k0_pay132, k0_pay131]
  refine congrArg (fun a : EReal => _ + a) ?_
  refine Finset.sum_congr rfl fun l _ => ?_
  rw [woL_apply m c (k0_off4 c 2#32) _ _ (k0_off4_eq c 1)]
  exact congrArg (fun a : EReal => a * _) (sL_apply m c 3 b r l)

/-- The four devices in a device's order are the four devices. -/
theorem sum_ring (f : Dev nD → EReal) : f c + f (prv c) + f (nxt c) + f (opp c) = ∑ d : Fin 4, f d := by
  have hc : ∀ c : Dev nD, (c = (0 : Fin 4) ∧ prv c = (3 : Fin 4) ∧ nxt c = (1 : Fin 4) ∧ opp c = (2 : Fin 4)) ∨ (c = (1 : Fin 4) ∧ prv c = (0 : Fin 4) ∧ nxt c = (2 : Fin 4) ∧ opp c = (3 : Fin 4))
      ∨ (c = (2 : Fin 4) ∧ prv c = (1 : Fin 4) ∧ nxt c = (3 : Fin 4) ∧ opp c = (0 : Fin 4)) ∨ (c = (3 : Fin 4) ∧ prv c = (2 : Fin 4) ∧ nxt c = (0 : Fin 4) ∧ opp c = (1 : Fin 4)) := by decide
  rw [Fin.sum_univ_four]
  obtain ⟨h0, h1, h2, h3⟩ | ⟨h0, h1, h2, h3⟩ | ⟨h0, h1, h2, h3⟩ | ⟨h0, h1, h2, h3⟩ := hc c <;> rw [h1, h2, h3, h0] <;> abel

end

variable {m : (ℓ : Loc nD τ sig) → Buf (Elt Ideal) ℓ}
  {x : (⟨3, ![2, 512, 768]⟩ : Shape).Idx → ℝ} {w : (⟨2, ![768, 2048]⟩ : Shape).Idx → ℝ} {k : (⟨4, ![2, 512, 32, 64]⟩ : Shape).Idx → ℝ}
  {v : (⟨4, ![2, 512, 32, 64]⟩ : Shape).Idx → EReal} {wo : (⟨2, ![2048, 768]⟩ : Shape).Idx → EReal}
  (H : Holds m x w k v) (ho : ∀ (c : Dev nD) i, aWo m c i = wo i)
include H ho

theorem out3_eq (c : Dev nD) (b : Fin 2) (r : Fin 512) (n : Fin 768) : out3 m c b (ix3 0 r n) = layer x w k v wo b r n := by
  rw [out3_apply, sum_ring c (fun d => part m c d b r n), layer, sum_devices]
  refine Finset.sum_congr rfl fun d _ => Finset.sum_congr rfl fun l _ => ?_
  rw [attOf_eq H, ho]
  refine congrArg₂ (fun (a : Fin 32) (e : Fin 64) => ctx x w k v b a r e * _) (Fin.ext ?_) (Fin.ext ?_)
  · show 8 * (d : ℕ) + (l : ℕ) / 64 = (512 * (d : ℕ) + l) / 64
    omega
  · show (l : ℕ) % 64 = (512 * (d : ℕ) + l) % 64
    omega

end Cert.RingProof
-- ==== Proof.ArrVal.lean ====
/-
  The result array of each device after the run.
-/
module

public import proofs.«01_k».proof.Proof.OutVal

@[expose] public section

noncomputable section

namespace Cert.RingProof

open Cert.KernelIdeal Cert.KernelIdeal.Gen
open Idealize.ShloMosaic
open Idealize.ShloMosaic.TcCoe

section
variable {F : FTy → Type} [FloatOps F] [Named F] (m : (ℓ : Loc nD τ sig) → Buf (Elt F) ℓ) (ρ : Dev nD → PrngReg) (c : Dev nD)

/-- The one block of the result's window is the whole array. -/
theorem out_emb (i : S2x512x768.Idx) : ((win0_5.rect (0 : Fin 1)).emb i : S2x512x768.Idx) = i := by
  have hz : ∀ a : Fin 3, win0_5.index (0 : Fin 1) a * win0_5.size a = 0 := by decide +kernel
  refine funext fun a => Fin.ext ?_
  exact (unit_emb_val _ _ _ i a).trans ((congrArg (· + (i a : ℕ)) (hz a)).trans (Nat.zero_add _))

/-- The contents of the result array, -/
abbrev outArr : Buf (Elt F) ((c : Thread nD τ).loc main_v1) := outC m c

theorem flushed_eq (t : Fin cfg0.N) : (dats m ρ 0 c).flushed 5 t = ((cfg0.win 5).blk t).view.read (Elt F) (outArr m c) := by
  obtain rfl := fin_N0 t
  show (cfg0.win 5).cut (grid0.coords t0_0) (outC m c) = _
  refine funext fun i : S2x512x768.Idx => ?_
  rw [View.read_apply]
  show (outC m c : S2x512x768.Idx → F .f32) i = (outC m c : S2x512x768.Idx → F .f32) ((win0_5.rect (0 : Fin 1)).emb i : S2x512x768.Idx)
  rw [out_emb]

theorem cover (i : S2x512x768.Idx) : ∃ t : Fin cfg0.N, (cfg0.win 5).flush t = true ∧ i ∈ ((cfg0.win 5).blk t).view.set := by
  refine ⟨t0_0, flush0_5 _, ?_⟩
  show i ∈ ((View.whole main_v1).slice (win0_5.rect t0_0)).set
  rw [View.set_slice_whole, Rect.mem_set_unit]
  have hz : ∀ a : Fin 3, win0_5.index t0_0 a * win0_5.size a = 0 ∧ win0_5.xsize (grid0.coords t0_0) a = S2x512x768.size a := by decide +kernel
  intro a
  show win0_5.index t0_0 a * win0_5.size a ≤ (i a : ℕ) ∧ (i a : ℕ) < win0_5.index t0_0 a * win0_5.size a + win0_5.xsize (grid0.coords t0_0) a
  rw [(hz a).1, (hz a).2]
  exact ⟨Nat.zero_le _, by rw [Nat.zero_add]; exact (i a).2⟩

/-- so the array ends at them. -/
theorem finalA_out : finalA m ρ c 5 = outArr m c :=
  (dats m ρ 0 c).arrAt_eq_of_cover 5 (outArr m c) (fun t _ => flushed_eq m ρ c t) cover

theorem inHalf_eq (i : S2x512x768.Idx) : inHalf i = ix3 0 (i 1) (i 2) :=
  funext fun a => by fin_cases a <;> rfl
end

variable {m : (ℓ : Loc nD τ sig) → Buf (Elt Ideal) ℓ}
  {x : (⟨3, ![2, 512, 768]⟩ : Shape).Idx → ℝ} {w : (⟨2, ![768, 2048]⟩ : Shape).Idx → ℝ} {k : (⟨4, ![2, 512, 32, 64]⟩ : Shape).Idx → ℝ}
  {v : (⟨4, ![2, 512, 32, 64]⟩ : Shape).Idx → EReal} {wo : (⟨2, ![2048, 768]⟩ : Shape).Idx → EReal}
  (H : Holds m x w k v) (ho : ∀ (c : Dev nD) i, aWo m c i = wo i)
include H ho

/-- Every device's result array is the attention layer. -/
theorem outArr_eq (c : Dev nD) : outArr m c = fun i : S2x512x768.Idx => layer x w k v wo (i 0) (i 1) (i 2) := by
  refine funext fun i : S2x512x768.Idx => ?_
  show out3 m c (i 0) (inHalf i) = _
  rw [inHalf_eq]
  exact out3_eq H ho c (i 0) (i 1) (i 2)

end Cert.RingProof
-- ==== Proof.RefVal.lean ====
/-
  The reference computes the attention layer: its result, read at an index.
-/
module

public import proofs.«01_k».proof.Proof.Spec
public import proofs.«01_k».proof.Proof.Blocks
public import proofs.«01_k».proof.Proof.Gen.ReferenceIdeal.Run

@[expose] public section

noncomputable section

namespace Cert.RingProof

open Cert.ReferenceIdeal Cert.ReferenceIdeal.Gen
open Idealize.ShloMosaic
open Idealize.ShloMosaic.TcCoe

section
variable (x : FVec Ideal S2x512x768 .bf16) (w : FVec Ideal S768x2048 .bf16) (k v : FVec Ideal S2x512x32x64 .bf16) (wo : FVec Ideal S2048x768 .bf16)

/-- The masked scores, -/
def refScores : FVec Ideal S2x32x512x512 .f32 :=
  select (broadcastInDim S2x32x512x512 ![0, 1, 2, 3] bcast_S1x1x512x512_S2x32x512x512_0_1_2_3 (broadcastInDim S1x1x512x512 ![2, 3] bcast_S512x512_S1x1x512x512_2_3 refMask))
    (mulf (Host.dotGeneral dot_S2x512x32x64_S2x512x32x64_S2x32x512x512_3_3_1_1_02_02 none
        (shapeCast _ (Host.dotGeneral dot_S2x512x768_S768x2048_S2x512x2048_2_0_01_1_n_n none (extf .f32 x bitsLt_bf16_f32) (extf .f32 w bitsLt_bf16_f32)) shapeCasts_S2x512x2048_S2x512x32x64)
        (extf .f32 k bitsLt_bf16_f32)) (broadcastInDim S2x32x512x512 ![] bcast_S_S2x32x512x512 (constant S_ .f32 0x3E000000#32)))
    (broadcastInDim S2x32x512x512 ![] bcast_S_S2x32x512x512 (id (constant S_ .f32 0xFF800000#32)))

/-- their exponentials, each row's greatest score taken off, -/
def refExp (s : FVec Ideal S2x32x512x512 .f32) : FVec Ideal S2x32x512x512 .f32 :=
  Host.exp (subf s (broadcastInDim S2x32x512x512 ![0, 1, 2, 3] bcast_S2x32x512x1_S2x32x512x512_0_1_2_3 (broadcastInDim S2x32x512x1 ![0, 1, 2] bcast_S2x32x512_S2x32x512x1_0_1_2
    (Host.reduce FloatOps.maximumf s (constant S_ .f32 0xFF800000#32) reducesTo_S2x32x512x512_S2x32x512_d3 h_S_))))

/-- the weights, -/
def refWeights (e : FVec Ideal S2x32x512x512 .f32) : FVec Ideal S2x32x512x512 .f32 :=
  select (broadcastInDim S2x32x512x512 ![0, 1, 2, 3] bcast_S1x1x512x1_S2x32x512x512_0_1_2_3 (broadcastInDim S1x1x512x1 ![2] bcast_S512_S1x1x512x1_2 refKeep))
    (Host.divf e (broadcastInDim S2x32x512x512 ![0, 1, 2, 3] bcast_S2x32x512x1_S2x32x512x512_0_1_2_3
      (select (broadcastInDim S2x32x512x1 ![0, 1, 2, 3] bcast_S1x1x512x1_S2x32x512x1_0_1_2_3 (broadcastInDim S1x1x512x1 ![2] bcast_S512_S1x1x512x1_2 refKeep))
        (broadcastInDim S2x32x512x1 ![0, 1, 2] bcast_S2x32x512_S2x32x512x1_0_1_2 (Host.reduceAdd e (constant S_ .f32 0x00000000#32) reducesTo_S2x32x512x512_S2x32x512_d3 h_S_))
        (broadcastInDim S2x32x512x1 ![] bcast_S_S2x32x512x1 (id (constant S_ .f32 0x3F800000#32))))))
    (broadcastInDim S2x32x512x512 ![] bcast_S_S2x32x512x512 (id (constant S_ .f32 0x00000000#32)))

/-- and the output. -/
def refOut (p : FVec Ideal S2x32x512x512 .f32) : FVec Ideal S2x512x768 .f32 :=
  Host.dotGeneral dot_S2x512x2048_S2048x768_S2x512x768_2_0_01_1_n_n none
    (shapeCast _ (transpose S2x512x32x64 [0, 3, 1, 2] (Host.dotGeneral dot_S2x512x32x64_S2x32x512x512_S2x32x64x512_1_3_3_2_02_01 none (extf .f32 v bitsLt_bf16_f32) p)
      transposes_S2x32x64x512_S2x512x32x64_0_3_1_2) shapeCasts_S2x512x32x64_S2x512x2048) (extf .f32 wo bitsLt_bf16_f32)
end

theorem eighth : Ideal.ofBits .f32 0x3E000000#32 = ((1 / 8 : ℝ) : EReal) := by
  simp [Ideal.ofBits, Ideal.ieee, -EReal.coe_mul]; norm_num
theorem minus_inf : Ideal.ofBits .f32 0xFF800000#32 = ⊥ := by
  simp [Ideal.ofBits, Ideal.ieee]
theorem select_one {α : Type} (a b : α) : Scalar.select (1#1) a b = a := rfl

/-- The reference's result is these. -/
theorem res_eq (m : (ℓ : Loc nD τ sig) → Buf (Elt Ideal) ℓ) (c : Dev nD) :
    Value.res_main_v38 m c = refOut (m ((c.tc : Thread nD τ).loc main_arg3)) (m ((c.tc : Thread nD τ).loc main_arg4))
      (refWeights (refExp (refScores (m ((c.tc : Thread nD τ).loc main_arg0)) (m ((c.tc : Thread nD τ).loc main_arg1)) (m ((c.tc : Thread nD τ).loc main_arg2))))) := by
  unfold Value.res_main_v38
  rfl

/-- The score of a key below the diagonal of blocks is its scaled product; the others are masked. -/
theorem refScores_apply {x : FVec Ideal S2x512x768 .bf16} {w : FVec Ideal S768x2048 .bf16} {k : FVec Ideal S2x512x32x64 .bf16}
    {xr : S2x512x768.Idx → ℝ} {wr : S768x2048.Idx → ℝ} {kr : S2x512x32x64.Idx → ℝ}
    (hx : ∀ i, x i = (xr i : EReal)) (hw : ∀ i, w i = (wr i : EReal)) (hk : ∀ i, k i = (kr i : EReal))
    (b : Fin 2) (H : Fin 32) (i j : Fin 512) :
    refScores x w k (ix4 b H i j) = if sees i j then ((score xr wr kr b H i j * (1 / 8) : ℝ) : EReal) else ⊥ := by
  unfold refScores
  pointwise
  rw [refMask_apply, select_ofBool]
  refine if_congr Iff.rfl ?_ ?_
  · rw [eighth, EReal.coe_mul, score, coe_sum]
    refine congrArg (· * _) (Finset.sum_congr rfl fun d _ => ?_)
    rw [EReal.coe_mul, query, coe_sum, hk]
    refine congrArg (· * _) (Finset.sum_congr rfl fun e _ => ?_)
    rw [EReal.coe_mul, hx, hw]
    refine congrArg (fun l => _ * (wr (ix2 e l) : EReal)) (Fin.ext ?_)
    show (H : ℕ) * 64 + d = 64 * H + d
    omega
  · exact minus_inf

/-- The weights of a row are the weights of the scores. -/
theorem refWeights_apply {s : FVec Ideal S2x32x512x512 .f32} {t : Fin 2 → Fin 32 → Fin 512 → Fin 512 → ℝ}
    (hs : ∀ b H i j, s (ix4 b H i j) = if sees i j then ((t b H i j * (1 / 8) : ℝ) : EReal) else ⊥)
    (b : Fin 2) (H : Fin 32) (i j : Fin 512) :
    refWeights (refExp s) (ix4 b H i j) = (soft (fun j : Fin 512 => sees i j) (t b H i) j : EReal) := by
  obtain ⟨M, hM⟩ := max_masked (fun j : Fin 512 => sees i j) (t b H i) (sees_self i)
  have he : ∀ j : Fin 512, refExp s (ix4 b H i j) = ((ew (fun j : Fin 512 => sees i j) (t b H i) j * Real.exp (-M) : ℝ) : EReal) := by
    intro j
    unfold refExp
    pointwise
    rw [minus_inf, show (fun x => s (ix4 b H i x)) = fun j : Fin 512 => if sees i j then ((t b H i j * (1 / 8) : ℝ) : EReal) else ⊥ from funext fun j => hs b H i j, hM, hs]
    exact exp_masked (fun j : Fin 512 => sees i j) (t b H i) M j
  unfold refWeights
  pointwise
  rw [refKeep_apply, select_one, select_one, he, Finset.sum_congr rfl fun j _ => he j]
  exact soft_ref _ _ M (sees_self i) j

/-- The output is the layer's. -/
theorem refOut_apply {x : FVec Ideal S2x512x768 .bf16} {w : FVec Ideal S768x2048 .bf16} {k : FVec Ideal S2x512x32x64 .bf16}
    (v : FVec Ideal S2x512x32x64 .bf16) (wo : FVec Ideal S2048x768 .bf16)
    {xr : S2x512x768.Idx → ℝ} {wr : S768x2048.Idx → ℝ} {kr : S2x512x32x64.Idx → ℝ}
    (hx : ∀ i, x i = (xr i : EReal)) (hw : ∀ i, w i = (wr i : EReal)) (hk : ∀ i, k i = (kr i : EReal))
    (b : Fin 2) (i : Fin 512) (n : Fin 768) :
    refOut v wo (refWeights (refExp (refScores x w k))) (ix3 b i n) = layer xr wr kr v wo b i n := by
  have hp := fun b H i j => refWeights_apply (t := score xr wr kr) (refScores_apply hx hw hk) b H i j
  generalize refWeights (refExp (refScores x w k)) = p at hp
  unfold refOut
  pointwise
  rw [layer]
  refine Finset.sum_congr rfl fun L _ => congrArg (· * _) ?_
  rw [ctx]
  exact Finset.sum_congr rfl fun j _ => congrArg _ (hp _ _ _ _)

end Cert.RingProof
-- ==== Proof.Finite.lean ====
/-
  What the precondition says: the elements of the query operands and of the keys are real numbers.
-/
module

public import proofs.«01_k».proof.Proof.Gen.Pre_finite_operands_KernelIdeal
public import Idealize.ShloMosaic.Lib.ReduceAll
public import Idealize.ShloMosaic.Lib.StableHlo
public import Idealize.ShloMosaic.PureOps.Ideal

@[expose] public section

noncomputable section

namespace Cert.RingProof

open Cert.Pre_finite_operands_KernelIdeal Cert.Pre_finite_operands_KernelIdeal.Gen
open Idealize.ShloMosaic

/-- A number whose absolute value is below `+∞` is real. -/
theorem real_of_lt (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  unfold Ideal.cmp at h
  have hl : max x (-x) < ⊤ := by
    by_contra hc
    simp [hc] at h
  refine (EReal.coe_toReal (fun e => ?_) (fun e => ?_)).symm <;> subst e <;> simp at hl

/-- An array all of whose elements pass that test holds real numbers. -/
theorem real_of_all {s : Shape} {axes : List (Fin s.rank)} (x : FVec Ideal s .bf16) (hb : FTy.bits .bf16 < FTy.bits .f32)
    (hc : S_.BroadcastsInDim s (![] : Fin 0 → Fin s.rank)) (init : IVec S_ 1) (hr : s.ReducesTo axes S_) (j : S_.Idx)
    (e : Host.reduce IntOp.andi (cmpf .olt (Host.absf (extf .f32 x hb)) (broadcastInDim s ![] hc (constant S_ .f32 0x7F800000#32))) init hr h_S_ j = 1#1)
    (i : s.Idx) : (x i : EReal) = ((x i : EReal).toReal : EReal) := by
  haveI : Subsingleton S_.Idx := ⟨fun a b => funext fun i => i.elim0⟩
  exact real_of_lt _ (Host.reduce_andi_all _ _ hr h_S_ j e i)

theorem real_of_pre (a0 : FVec Ideal S2x512x768 .bf16) (a1 : FVec Ideal S768x2048 .bf16) (a2 a3 : FVec Ideal S2x512x8x64 .bf16) (a4 : FVec Ideal S2048x768 .bf16)
    (h : fn a0 a1 a2 a3 a4 = fun _ => 1#1) :
    (∀ i, (a0 i : EReal) = ((a0 i : EReal).toReal : EReal)) ∧ (∀ i, (a1 i : EReal) = ((a1 i : EReal).toReal : EReal)) ∧ (∀ i, (a2 i : EReal) = ((a2 i : EReal).toReal : EReal)) := by
  have h := congrFun h (fun a => a.elim0)
  dsimp only [fn] at h
  obtain ⟨h01, h2⟩ := IntOp.andi_eq_one.1 h
  obtain ⟨h0, h1⟩ := IntOp.andi_eq_one.1 h01
  exact ⟨real_of_all a0 _ _ _ _ _ h0, real_of_all a1 _ _ _ _ _ h1, real_of_all a2 _ _ _ _ _ h2⟩

end Cert.RingProof
-- ==== Proof.Algebraic.lean ====
/-
  The kernel and the reference compute the same array.
-/
module

public import proofs.«01_k».proof.Proof.Frames
public import proofs.«01_k».proof.Proof.ArrVal
public import proofs.«01_k».proof.Proof.RefVal
public import proofs.«01_k».proof.Proof.Finite

@[expose] public section

noncomputable section

namespace Cert.RingProof

open Idealize.ShloMosaic Idealize.SL.Sem
open Idealize.ShloMosaic.TcCoe

/-- An element of a device's block of the keys or values, in the whole array. -/
theorem block_apply4 (c : Fin 4) (v : (⟨4, ![2, 512, 32, 64]⟩ : Shape).Idx → EReal) (b : Fin 2) (j : Fin 512) (h : Fin 8) (d : Fin 64) :
    Layout.block ⟨4, ![2, 512, 8, 64]⟩ ⟨4, ![2, 512, 32, 64]⟩ 2 4 c v (by decide) (ix4 b j h d) = v (ix4 b j ⟨8 * c + h, by omega⟩ d) := by
  rw [Layout.block_apply]
  refine congrArg v (funext fun a => Fin.ext ?_)
  rw [Layout.Tiles.idx_val]
  fin_cases a
  · rfl
  · rfl
  · show (c : ℕ) * 8 + h = 8 * c + h
    omega
  · rfl

/-- The head `H` of the whole array is a head of a device's block. -/
theorem exists_block (H : Fin 32) : ∃ (c : Fin 4) (h : Fin 8), H = ⟨8 * c + h, by omega⟩ :=
  ⟨⟨(H : ℕ) / 8, by omega⟩, ⟨(H : ℕ) % 8, by omega⟩, Fin.ext (by show (H : ℕ) = 8 * ((H : ℕ) / 8) + (H : ℕ) % 8; omega)⟩

theorem algebraic : Cert.algebraic_KernelIdeal_ReferenceIdeal_pre_finite_operands_KernelIdeal := by
  intro m g m' g' hpre hin
  let x' : (⟨3, ![2, 512, 768]⟩ : Shape).Idx → EReal := m' (((0 : Dev Cert.ReferenceIdeal.nD).tc : Thread Cert.ReferenceIdeal.nD Cert.ReferenceIdeal.τ).loc Cert.ReferenceIdeal.main_arg0)
  let w' : (⟨2, ![768, 2048]⟩ : Shape).Idx → EReal := m' (((0 : Dev Cert.ReferenceIdeal.nD).tc : Thread Cert.ReferenceIdeal.nD Cert.ReferenceIdeal.τ).loc Cert.ReferenceIdeal.main_arg1)
  let k' : (⟨4, ![2, 512, 32, 64]⟩ : Shape).Idx → EReal := m' (((0 : Dev Cert.ReferenceIdeal.nD).tc : Thread Cert.ReferenceIdeal.nD Cert.ReferenceIdeal.τ).loc Cert.ReferenceIdeal.main_arg2)
  let v' : (⟨4, ![2, 512, 32, 64]⟩ : Shape).Idx → EReal := m' (((0 : Dev Cert.ReferenceIdeal.nD).tc : Thread Cert.ReferenceIdeal.nD Cert.ReferenceIdeal.τ).loc Cert.ReferenceIdeal.main_arg3)
  let o' : (⟨2, ![2048, 768]⟩ : Shape).Idx → EReal := m' (((0 : Dev Cert.ReferenceIdeal.nD).tc : Thread Cert.ReferenceIdeal.nD Cert.ReferenceIdeal.τ).loc Cert.ReferenceIdeal.main_arg4)
  have e0 : ∀ c, aX m c = x' := fun c => (hin c).1
  have e1 : ∀ c, aWq m c = w' := fun c => (hin c).2.1
  have e2 : ∀ c : Fin 4, aK m c = Layout.block ⟨4, ![2, 512, 8, 64]⟩ ⟨4, ![2, 512, 32, 64]⟩ 2 4 c k' := fun c => (hin c).2.2.1
  have e3 : ∀ c : Fin 4, aV m c = Layout.block ⟨4, ![2, 512, 8, 64]⟩ ⟨4, ![2, 512, 32, 64]⟩ 2 4 c v' := fun c => (hin c).2.2.2.1
  have e4 : ∀ c, aWo m c = o' := fun c => (hin c).2.2.2.2
  have hp := fun c => real_of_pre _ _ _ _ _ (hpre c)
  have hx : ∀ i, x' i = ((x' i).toReal : EReal) := fun i => by rw [← e0 0]; exact (hp 0).1 i
  have hw : ∀ i, w' i = ((w' i).toReal : EReal) := fun i => by rw [← e1 0]; exact (hp 0).2.1 i
  have hk : ∀ i, k' i = ((k' i).toReal : EReal) := fun i => by
    obtain ⟨b, j, H, d, rfl⟩ : ∃ (b : Fin 2) (j : Fin 512) (H : Fin 32) (d : Fin 64), i = ix4 b j H d := ⟨i 0, i 1, i 2, i 3, eq_ix4 i⟩
    obtain ⟨c, h, rfl⟩ := exists_block H
    rw [← block_apply4 c k' b j h d, ← e2 c]
    exact (hp c).2.2 _
  have H : Holds m (fun i => (x' i).toReal) (fun i => (w' i).toReal) (fun i => (k' i).toReal) v' :=
    ⟨fun c i => by rw [e0]; exact hx i, fun c i => by rw [e1]; exact hw i,
      fun c b j h d => by rw [e2, block_apply4]; exact hk _, fun c b j h d => by rw [e3, block_apply4]⟩
  have ho : ∀ c i, aWo m c i = o' i := fun c i => by rw [e4]
  have hr : Cert.ReferenceIdeal.Value.res_main_v38 m' 0
      = fun i : (⟨3, ![2, 512, 768]⟩ : Shape).Idx => layer (fun i => (x' i).toReal) (fun i => (w' i).toReal) (fun i => (k' i).toReal) v' o' (i 0) (i 1) (i 2) := by
    rw [res_eq]
    refine funext fun i : (⟨3, ![2, 512, 768]⟩ : Shape).Idx => ?_
    rw [eq_ix3 i]
    exact refOut_apply v' o' hx hw hk (i 0) (i 1) (i 2)
  refine ⟨Cert.ReferenceIdeal.Value.res_main_v38 m' 0, (θ_run Cert.KernelIdeal.defs _ _).mono (fun r h c => ⟨?_, args_of_QC m g h.1 c⟩) (run_main (F := Ideal) m g),
    (θ_run Cert.ReferenceIdeal.defs _ _).mono (fun r h => h 0) (Cert.ReferenceIdeal.Value.run (F := Ideal) m' g')⟩
  exact (h.1 c 5).trans ((finalA_out m g c).trans ((outArr_eq H ho c).trans hr.symm))

end Cert.RingProof
-- ==== Proof.lean ====
/-
  The claims, assembled from the modules under Proof/.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_operands_KernelIdeal
public import proofs.«01_k».proof.Proof.Gen.Pre_finite_operands_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_operands_KernelIdeal.Gen.facts, Cert.Pre_finite_operands_ReferenceIdeal.Gen.facts,
    RingProof.frame_kernel, RingProof.frame_ideal, fun m ρ _ => RingProof.frame_ideal m ρ trivial,
    RingProof.frame_ref, fun m ρ _ => RingProof.frame_ref m ρ trivial, RingProof.preserves, RingProof.algebraic⟩

end Cert.Proof

end
